-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "log2_fp8_max" .f32 0x410CEAED#32 (((Real.log 448) * (Real.log 2)⁻¹ : ℝ) : EReal)
  ∧ IdealRules.sign_bit.Statement Cert.KernelIdeal.S32x128 .f32
  ∧ IdealRules.named_const.Statement Cert.KernelIdeal.κ "log2_range_over_k_max" .f32 0x400E7576#32 (((1 / 8) * ((Real.log 229376) * (Real.log 2)⁻¹) : ℝ) : EReal)
  ∧ IdealRules.named_const.Statement Cert.KernelIdeal.κ "log2_range" .f32 0x418E7576#32 (((Real.log 229376) * (Real.log 2)⁻¹ : ℝ) : EReal)

def preserves_Reference_ReferenceIdeal : Prop :=
  IdealRules.sign_bit.Statement Cert.ReferenceIdeal.S1792x224x128 .f32
  ∧ IdealRules.named_const.Statement Cert.ReferenceIdeal.κ "log_range" .f32 0x41457D69#32 ((Real.log 229376 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)) (v4 : (c : Dev Cert.KernelIdeal.nD) → Buf (Elt Ideal) ((c.tc : Thread Cert.KernelIdeal.nD Cert.KernelIdeal.τ).loc Cert.KernelIdeal.main_v16_4)) (v5 : (c : Dev Cert.KernelIdeal.nD) → Buf (Elt Ideal) ((c.tc : Thread Cert.KernelIdeal.nD Cert.KernelIdeal.τ).loc Cert.KernelIdeal.main_v16_5)) (v6 : (c : Dev Cert.KernelIdeal.nD) → Buf (Elt Ideal) ((c.tc : Thread Cert.KernelIdeal.nD Cert.KernelIdeal.τ).loc Cert.KernelIdeal.main_v16_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_v16_4) = v4 c
          ∧ r.2.mem ((c.tc : Thread Cert.KernelIdeal.nD Cert.KernelIdeal.τ).loc Cert.KernelIdeal.main_v16_5) = v5 c
          ∧ r.2.mem ((c.tc : Thread Cert.KernelIdeal.nD Cert.KernelIdeal.τ).loc Cert.KernelIdeal.main_v16_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15_0) = v0 c
          ∧ r.2.mem ((c.tc : Thread Cert.ReferenceIdeal.nD Cert.ReferenceIdeal.τ).loc Cert.ReferenceIdeal.main_v15_1) = v1 c
          ∧ r.2.mem ((c.tc : Thread Cert.ReferenceIdeal.nD Cert.ReferenceIdeal.τ).loc Cert.ReferenceIdeal.main_v15_2) = v2 c
          ∧ r.2.mem ((c.tc : Thread Cert.ReferenceIdeal.nD Cert.ReferenceIdeal.τ).loc Cert.ReferenceIdeal.main_v15_3) = v3 c
          ∧ r.2.mem ((c.tc : Thread Cert.ReferenceIdeal.nD Cert.ReferenceIdeal.τ).loc Cert.ReferenceIdeal.main_v15_4) = v4 c
          ∧ r.2.mem ((c.tc : Thread Cert.ReferenceIdeal.nD Cert.ReferenceIdeal.τ).loc Cert.ReferenceIdeal.main_v15_5) = v5 c
          ∧ r.2.mem ((c.tc : Thread Cert.ReferenceIdeal.nD Cert.ReferenceIdeal.τ).loc Cert.ReferenceIdeal.main_v15_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S2x896x28672 : Shape := ⟨3, ![2, 896, 28672]⟩
abbrev S2x896x224 : Shape := ⟨3, ![2, 896, 224]⟩
abbrev S_ : Shape := ⟨0, ![]⟩
abbrev S1 : Shape := ⟨1, ![1]⟩
abbrev S2 : Shape := ⟨1, ![2]⟩
abbrev S1792x28672 : Shape := ⟨2, ![1792, 28672]⟩
abbrev S1792x224 : Shape := ⟨2, ![1792, 224]⟩
abbrev S32x28672 : Shape := ⟨2, ![32, 28672]⟩
abbrev S32x224 : Shape := ⟨2, ![32, 224]⟩
abbrev S32x128 : Shape := ⟨2, ![32, 128]⟩
abbrev S32 : Shape := ⟨1, ![32]⟩
abbrev S32x1 : Shape := ⟨2, ![32, 1]⟩

abbrev nBuf : Space → Nat
  | .hbm => 36
  | .vmem => 30
  | .smem => 1
  | _ => 0

abbrev bufTy : (tb : Table) → Fin (tcTables nBuf tb) → BufTy
  | .hbm, ⟨0, _⟩ => ⟨S2x896x28672, .f32⟩
  | .hbm, ⟨1, _⟩ => ⟨S2x896x28672, .bf16⟩
  | .hbm, ⟨2, _⟩ => ⟨S2x896x28672, .fp8e4m3⟩
  | .hbm, ⟨3, _⟩ => ⟨S2x896x224, .f32⟩
  | .hbm, ⟨4, _⟩ => ⟨S2x896x224, .f32⟩
  | .hbm, ⟨5, _⟩ => ⟨S2x896x28672, .fp8e4m3⟩
  | .hbm, ⟨6, _⟩ => ⟨S2x896x224, .f32⟩
  | .hbm, ⟨7, _⟩ => ⟨S2x896x224, .f32⟩
  | .hbm, ⟨8, _⟩ => ⟨S_, .i32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1, .f32⟩
  | .hbm, ⟨19, _⟩ => ⟨S1, .f32⟩
  | .hbm, ⟨20, _⟩ => ⟨S2, .f32⟩
  | .hbm, ⟨21, _⟩ => ⟨S1792x28672, .f32⟩
  | .hbm, ⟨22, _⟩ => ⟨S1792x28672, .bf16⟩
  | .hbm, ⟨23, _⟩ => ⟨S1792x28672, .fp8e4m3⟩
  | .hbm, ⟨24, _⟩ => ⟨S1792x224, .f32⟩
  | .hbm, ⟨25, _⟩ => ⟨S1792x224, .f32⟩
  | .hbm, ⟨26, _⟩ => ⟨S1792x28672, .fp8e4m3⟩
  | .hbm, ⟨27, _⟩ => ⟨S1792x224, .f32⟩
  | .hbm, ⟨28, _⟩ => ⟨S1792x224, .f32⟩
  | .hbm, ⟨29, _⟩ => ⟨S1792x28672, .f32⟩
  | .hbm, ⟨30, _⟩ => ⟨S1792x28672, .fp8e4m3⟩
  | .hbm, ⟨31, _⟩ => ⟨S1792x224, .f32⟩
  | .hbm, ⟨32, _⟩ => ⟨S1792x224, .f32⟩
  | .hbm, ⟨33, _⟩ => ⟨S1792x28672, .fp8e4m3⟩
  | .hbm, ⟨34, _⟩ => ⟨S1792x224, .f32⟩
  | .hbm, ⟨35, _⟩ => ⟨S1792x224, .f32⟩
  | .local _ .vmem, ⟨0, _⟩ => ⟨S32x28672, .f32⟩
  | .local _ .vmem, ⟨1, _⟩ => ⟨S32x28672, .f32⟩
  | .local _ .vmem, ⟨2, _⟩ => ⟨S32x28672, .bf16⟩
  | .local _ .vmem, ⟨3, _⟩ => ⟨S32x28672, .bf16⟩
  | .local _ .vmem, ⟨4, _⟩ => ⟨S32x28672, .fp8e4m3⟩
  | .local _ .vmem, ⟨5, _⟩ => ⟨S32x28672, .fp8e4m3⟩
  | .local _ .vmem, ⟨6, _⟩ => ⟨S32x224, .f32⟩
  | .local _ .vmem, ⟨7, _⟩ => ⟨S32x224, .f32⟩
  | .local _ .vmem, ⟨8, _⟩ => ⟨S32x224, .f32⟩
  | .local _ .vmem, ⟨9, _⟩ => ⟨S32x224, .f32⟩
  | .local _ .vmem, ⟨10, _⟩ => ⟨S32x28672, .fp8e4m3⟩
  | .local _ .vmem, ⟨11, _⟩ => ⟨S32x28672, .fp8e4m3⟩
  | .local _ .vmem, ⟨12, _⟩ => ⟨S32x224, .f32⟩
  | .local _ .vmem, ⟨13, _⟩ => ⟨S32x224, .f32⟩
  | .local _ .vmem, ⟨14, _⟩ => ⟨S32x224, .f32⟩
  | .local _ .vmem, ⟨15, _⟩ => ⟨S32x224, .f32⟩
  | .local _ .vmem, ⟨16, _⟩ => ⟨S32x28672, .f32⟩
  | .local _ .vmem, ⟨17, _⟩ => ⟨S32x28672, .f32⟩
  | .local _ .vmem, ⟨18, _⟩ => ⟨S32x28672, .fp8e4m3⟩
  | .local _ .vmem, ⟨19, _⟩ => ⟨S32x28672, .fp8e4m3⟩
  | .local _ .vmem, ⟨20, _⟩ => ⟨S32x224, .f32⟩
  | .local _ .vmem, ⟨21, _⟩ => ⟨S32x224, .f32⟩
  | .local _ .vmem, ⟨22, _⟩ => ⟨S32x224, .f32⟩
  | .local _ .vmem, ⟨23, _⟩ => ⟨S32x224, .f32⟩
  | .local _ .vmem, ⟨24, _⟩ => ⟨S32x28672, .fp8e4m3⟩
  | .local _ .vmem, ⟨25, _⟩ => ⟨S32x28672, .fp8e4m3⟩
  | .local _ .vmem, ⟨26, _⟩ => ⟨S32x224, .f32⟩
  | .local _ .vmem, ⟨27, _⟩ => ⟨S32x224, .f32⟩
  | .local _ .vmem, ⟨28, _⟩ => ⟨S32x224, .f32⟩
  | .local _ .vmem, ⟨29, _⟩ => ⟨S32x224, .f32⟩
  | .local _ .smem, ⟨0, _⟩ => ⟨S2, .f32⟩
  | _, _ => ⟨S2x896x28672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_cst_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev main_v16_3 : Ref sig .tc := ⟨.hbm, 32, rfl⟩
abbrev main_v16_4 : Ref sig .tc := ⟨.hbm, 33, rfl⟩
abbrev main_v16_5 : Ref sig .tc := ⟨.hbm, 34, rfl⟩
abbrev main_v16_6 : Ref sig .tc := ⟨.hbm, 35, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [BitOps F]

abbrev grid0 : Pipeline.Grid := ⟨1, ![56], ![false]⟩

@[reducible] def k0_t1_loop : Scf.Loop 32 :=
  let c0_i32 : BitVec 32 := 0#32
  let c224_i32 : BitVec 32 := 224#32
  let v15 : BitVec 32 := Scalar.addi c0_i32 c224_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c128_i32 : BitVec 32 := 128#32
  let v21 : BitVec 32 := Scalar.muli arg17 c128_i32
  v21
def k0_off1 (k0_t1 : Fin k0_t1_loop.trips) : Fin 2 → Nat :=
  let c0_20 : Index := 0#32
  let c0_i32 : BitVec 32 := 0#32
  let c1_i32 : BitVec 32 := 1#32
  let arg17 : BitVec 32 := Scf.iv c0_i32 c1_i32 k0_t1
  let c128_i32 : BitVec 32 := 128#32
  let v21 : BitVec 32 := Scalar.muli arg17 c128_i32
  let v22 : BitVec 32 := v21
  let v25 : Index := Scalar.indexCast v22
  ![0, v25.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x28672 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x28672 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x28672 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x28672 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x224 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x224 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x28672 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x28672 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x224 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x224 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x28672 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x224 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x224 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "inv_ln2" => some (((Real.log 2)⁻¹ : ℝ) : EReal)
  | "log2_fp8_max" => some (((Real.log 448) * (Real.log 2)⁻¹ : ℝ) : EReal)
  | "log2_range" => some (((Real.log 229376) * (Real.log 2)⁻¹ : ℝ) : EReal)
  | "log2_range_over_k_max" => some (((1 / 8) * ((Real.log 229376) * (Real.log 2)⁻¹) : ℝ) : EReal)
  | _ => none
-- ==== Reference.lean ====
abbrev S2x896x28672 : Shape := ⟨3, ![2, 896, 28672]⟩
abbrev S2x896x224 : Shape := ⟨3, ![2, 896, 224]⟩
abbrev S_ : Shape := ⟨0, ![]⟩
abbrev S1x1 : Shape := ⟨2, ![1, 1]⟩
abbrev S1792x28672 : Shape := ⟨2, ![1792, 28672]⟩
abbrev S1792x224 : Shape := ⟨2, ![1792, 224]⟩
abbrev S1792x224x128 : Shape := ⟨3, ![1792, 224, 128]⟩
abbrev S1792x224x1 : Shape := ⟨3, ![1792, 224, 1]⟩

abbrev nBuf : Space → Nat
  | .hbm => 35
  | .vmem => 15
  | .smem => 2
  | _ => 0

abbrev bufTy : (tb : Table) → Fin (tcTables nBuf tb) → BufTy
  | .hbm, ⟨0, _⟩ => ⟨S2x896x28672, .f32⟩
  | .hbm, ⟨1, _⟩ => ⟨S2x896x28672, .bf16⟩
  | .hbm, ⟨2, _⟩ => ⟨S2x896x28672, .fp8e4m3⟩
  | .hbm, ⟨3, _⟩ => ⟨S2x896x224, .f32⟩
  | .hbm, ⟨4, _⟩ => ⟨S2x896x224, .f32⟩
  | .hbm, ⟨5, _⟩ => ⟨S2x896x28672, .fp8e4m3⟩
  | .hbm, ⟨6, _⟩ => ⟨S2x896x224, .f32⟩
  | .hbm, ⟨7, _⟩ => ⟨S2x896x224, .f32⟩
  | .hbm, ⟨8, _⟩ => ⟨S_, .i32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x1, .f32⟩
  | .hbm, ⟨19, _⟩ => ⟨S1x1, .f32⟩
  | .hbm, ⟨20, _⟩ => ⟨S1792x28672, .f32⟩
  | .hbm, ⟨21, _⟩ => ⟨S1792x28672, .bf16⟩
  | .hbm, ⟨22, _⟩ => ⟨S1792x28672, .fp8e4m3⟩
  | .hbm, ⟨23, _⟩ => ⟨S1792x224, .f32⟩
  | .hbm, ⟨24, _⟩ => ⟨S1792x224, .f32⟩
  | .hbm, ⟨25, _⟩ => ⟨S1792x28672, .fp8e4m3⟩
  | .hbm, ⟨26, _⟩ => ⟨S1792x224, .f32⟩
  | .hbm, ⟨27, _⟩ => ⟨S1792x224, .f32⟩
  | .hbm, ⟨28, _⟩ => ⟨S1792x28672, .f32⟩
  | .hbm, ⟨29, _⟩ => ⟨S1792x28672, .fp8e4m3⟩
  | .hbm, ⟨30, _⟩ => ⟨S1792x224, .f32⟩
  | .hbm, ⟨31, _⟩ => ⟨S1792x224, .f32⟩
  | .hbm, ⟨32, _⟩ => ⟨S1792x28672, .fp8e4m3⟩
  | .hbm, ⟨33, _⟩ => ⟨S1792x224, .f32⟩
  | .hbm, ⟨34, _⟩ => ⟨S1792x224, .f32⟩
  | .local _ .vmem, ⟨0, _⟩ => ⟨S1792x28672, .f32⟩
  | .local _ .vmem, ⟨1, _⟩ => ⟨S1792x28672, .bf16⟩
  | .local _ .vmem, ⟨2, _⟩ => ⟨S1792x28672, .fp8e4m3⟩
  | .local _ .vmem, ⟨3, _⟩ => ⟨S1792x224, .f32⟩
  | .local _ .vmem, ⟨4, _⟩ => ⟨S1792x224, .f32⟩
  | .local _ .vmem, ⟨5, _⟩ => ⟨S1792x28672, .fp8e4m3⟩
  | .local _ .vmem, ⟨6, _⟩ => ⟨S1792x224, .f32⟩
  | .local _ .vmem, ⟨7, _⟩ => ⟨S1792x224, .f32⟩
  | .local _ .vmem, ⟨8, _⟩ => ⟨S1792x28672, .f32⟩
  | .local _ .vmem, ⟨9, _⟩ => ⟨S1792x28672, .fp8e4m3⟩
  | .local _ .vmem, ⟨10, _⟩ => ⟨S1792x224, .f32⟩
  | .local _ .vmem, ⟨11, _⟩ => ⟨S1792x224, .f32⟩
  | .local _ .vmem, ⟨12, _⟩ => ⟨S1792x28672, .fp8e4m3⟩
  | .local _ .vmem, ⟨13, _⟩ => ⟨S1792x224, .f32⟩
  | .local _ .vmem, ⟨14, _⟩ => ⟨S1792x224, .f32⟩
  | .local _ .smem, ⟨0, _⟩ => ⟨S1x1, .f32⟩
  | .local _ .smem, ⟨1, _⟩ => ⟨S1x1, .f32⟩
  | _, _ => ⟨S2x896x28672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_cst_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v15_3 : Ref sig .tc := ⟨.hbm, 31, rfl⟩
abbrev main_v15_4 : Ref sig .tc := ⟨.hbm, 32, rfl⟩
abbrev main_v15_5 : Ref sig .tc := ⟨.hbm, 33, rfl⟩
abbrev main_v15_6 : Ref sig .tc := ⟨.hbm, 34, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg11_0 : Ref sig .tc := ⟨.vmem, 9, rfl⟩
abbrev cc0_stg12_0 : Ref sig .tc := ⟨.vmem, 10, rfl⟩
abbrev cc0_stg13_0 : Ref sig .tc := ⟨.vmem, 11, rfl⟩
abbrev cc0_stg14_0 : Ref sig .tc := ⟨.vmem, 12, rfl⟩
abbrev cc0_stg15_0 : Ref sig .tc := ⟨.vmem, 13, rfl⟩
abbrev cc0_stg16_0 : Ref sig .tc := ⟨.vmem, 14, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [BitOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x28672 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1792x28672 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1792x28672 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1792x224 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1792x224 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1792x28672 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1792x224 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1792x224 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1792x28672 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1792x28672 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1792x224 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1792x224 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1792x28672 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1792x224 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1792x224 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== ReferenceIdeal.lean ====
variable {F : FTy → Type} [FloatOps F] [Named F]
def κ : String → Option EReal := fun
  | "log_range" => some ((Real.log 229376 : ℝ) : EReal)
  | _ => none
-- ==== Proof.Runs.lean ====
/- The claims that need no value: each of the four programs runs to quiescence and leaves its arguments alone (the
   generated frame runs), and each ideal program is the sanctioned idealization of its source (one rule statement per
   distinct ledger entry, in order of first appearance). -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Reference
public import proofs.«01_k».proof.Proof.Gen.Reference.Frame
public import proofs.«01_k».proof.Proof.Gen.ReferenceIdeal
public import proofs.«01_k».proof.Proof.Gen.ReferenceIdeal.Frame

@[expose] public section

noncomputable section

namespace Cert.Runs

open Idealize.ShloMosaic Idealize.SL.Sem

/-- The kernel runs, at the machine's words. -/
theorem frame_kernel : quiescent_Kernel := fun m ρ _ => Cert.Kernel.Gen.frame m ρ

/-- The ideal kernel runs. -/
theorem frame_kernel_ideal : quiescent_KernelIdeal := fun m ρ _ => Cert.KernelIdeal.Gen.frame m ρ

/-- The reference runs, at the machine's words. -/
theorem frame_reference : quiescent_Reference := fun m ρ _ => Cert.Reference.Gen.frame m ρ

/-- The ideal reference runs. -/
theorem frame_reference_ideal : quiescent_ReferenceIdeal := fun m ρ _ => Cert.ReferenceIdeal.Gen.frame m ρ

/-- The ideal kernel is the kernel with its four logarithm constants named exactly and the sign read by comparison. -/
theorem preserves_kernel : preserves_Kernel_KernelIdeal :=
  ⟨IdealRules.named_const.statement Cert.KernelIdeal.κ "inv_ln2" .f32 0x3FB8AA3B#32 _ rfl,
    IdealRules.named_const.statement Cert.KernelIdeal.κ "log2_fp8_max" .f32 0x410CEAED#32 _ rfl,
    IdealRules.sign_bit.statement Cert.KernelIdeal.S32x128 .f32,
    IdealRules.named_const.statement Cert.KernelIdeal.κ "log2_range_over_k_max" .f32 0x400E7576#32 _ rfl,
    IdealRules.named_const.statement Cert.KernelIdeal.κ "log2_range" .f32 0x418E7576#32 _ rfl⟩

/-- The ideal reference is the reference with its one logarithm constant named exactly and the sign read by
    comparison. -/
theorem preserves_reference : preserves_Reference_ReferenceIdeal :=
  ⟨IdealRules.sign_bit.statement Cert.ReferenceIdeal.S1792x224x128 .f32,
    IdealRules.named_const.statement Cert.ReferenceIdeal.κ "log_range" .f32 0x41457D69#32 _ rfl⟩

end Cert.Runs

end
-- ==== Proof.Consts.lean ====
/- The float constants the two programs spell, as the extended reals they denote: the literals by their bit patterns, the
   named ones by the tables of the two programs. One module states them, so no other unfolds `Ideal.ofBits`. -/
module

public import proofs.«01_k».proof.Defs
public import Idealize.ShloMosaic.PureOps.Ideal

@[expose] public section

noncomputable section

namespace Cert.Consts

open Idealize.ShloMosaic

theorem ofBits_zero : Ideal.ofBits .f32 0x00000000#32 = ((0 : ℝ) : EReal) := by
  simp [Ideal.ofBits, Ideal.ieee, -EReal.coe_mul]

theorem ofBits_one : Ideal.ofBits .f32 0x3F800000#32 = ((1 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

theorem ofBits_448 : Ideal.ofBits .f32 0x43E00000#32 = ((448 : ℝ) : EReal) := by
  simp [Ideal.ofBits, Ideal.ieee, -EReal.coe_mul]; norm_num

theorem ofBits_8 : Ideal.ofBits .f32 0x41000000#32 = ((8 : ℝ) : EReal) := by
  simp [Ideal.ofBits, Ideal.ieee, -EReal.coe_mul]; norm_num

theorem ofBits_top : Ideal.ofBits .f32 0x7F800000#32 = ⊤ := by
  simp [Ideal.ofBits, Ideal.ieee]

theorem ofBits_bot : Ideal.ofBits .f32 0xFF800000#32 = ⊥ := by
  simp [Ideal.ofBits, Ideal.ieee]

/-! ## The named constants -/

theorem inv_ln2 : Named.named (F := Ideal) Cert.KernelIdeal.κ "inv_ln2" (φ := .f32) 0x3FB8AA3B#32
    = (((Real.log 2)⁻¹ : ℝ) : EReal) :=
  IdealRules.named_const.ideal_named_scalar _ _ _ _ rfl

theorem log2_fp8_max : Named.named (F := Ideal) Cert.KernelIdeal.κ "log2_fp8_max" (φ := .f32) 0x410CEAED#32
    = ((Real.log 448 * (Real.log 2)⁻¹ : ℝ) : EReal) :=
  IdealRules.named_const.ideal_named_scalar _ _ _ _ rfl

theorem log2_range : Named.named (F := Ideal) Cert.KernelIdeal.κ "log2_range" (φ := .f32) 0x418E7576#32
    = ((Real.log 229376 * (Real.log 2)⁻¹ : ℝ) : EReal) :=
  IdealRules.named_const.ideal_named_scalar _ _ _ _ rfl

theorem log2_range_over_k_max : Named.named (F := Ideal) Cert.KernelIdeal.κ "log2_range_over_k_max" (φ := .f32) 0x400E7576#32
    = ((1 / 8 * (Real.log 229376 * (Real.log 2)⁻¹) : ℝ) : EReal) :=
  IdealRules.named_const.ideal_named_scalar _ _ _ _ rfl

theorem log_range : Named.named (F := Ideal) Cert.ReferenceIdeal.κ "log_range" (φ := .f32) 0x41457D69#32
    = ((Real.log 229376 : ℝ) : EReal) :=
  IdealRules.named_const.ideal_named_scalar _ _ _ _ rfl

end Cert.Consts

end
-- ==== Proof.Scalars.lean ====
/- The arithmetic of one element, over the extended reals, as the kernel computes it (base-two logarithm and power) and
   as the reference states it (natural logarithm and exponential), and the proof that the two agree everywhere, the
   infinities included: a base-two logarithm is a natural one times a positive constant, which differences, maxima and
   quotients carry through. -/
module

public import Idealize.ShloMosaic.PureOps.Ideal
public import Mathlib.Data.EReal.Operations
public import Mathlib.Data.EReal.Inv
public import Mathlib.Analysis.SpecialFunctions.Pow.Real

@[expose] public section

noncomputable section

namespace Cert.Adam

open Idealize.ShloMosaic

/-! ## A positive real factor -/

section Factor

variable {c : ℝ}

/-- A positive real factor passes through a sum. -/
theorem add_mul_pos (hc : 0 < c) (x y : EReal) : (x + y) * (c : EReal) = x * c + y * c :=
  EReal.right_distrib_of_nonneg_of_ne_top (by exact_mod_cast hc.le) (EReal.coe_ne_top c) x y

/-- … through a difference. -/
theorem sub_mul_pos (hc : 0 < c) (x y : EReal) : (x - y) * (c : EReal) = x * c - y * c := by
  rw [sub_eq_add_neg, add_mul_pos hc, EReal.neg_mul, sub_eq_add_neg]

/-- … through a maximum. -/
theorem max_mul_pos (hc : 0 < c) (x y : EReal) : max x y * (c : EReal) = max (x * c) (y * c) := by
  have hmono : Monotone fun z : EReal => z * (c : EReal) := fun a b hab =>
    mul_le_mul_of_nonneg_right hab (by exact_mod_cast hc.le)
  exact hmono.map_max

/-- A positive real factor does not change a sign. -/
theorem mul_pos_iff (hc : 0 < c) (x : EReal) : 0 < x * (c : EReal) ↔ 0 < x := by
  induction x with
  | bot => simp [EReal.bot_mul_coe_of_pos hc]
  | top => simp [EReal.top_mul_coe_of_pos hc]
  | coe r => norm_cast; exact ⟨fun h => by by_contra hr; exact absurd h (not_lt.mpr (mul_nonpos_of_nonpos_of_nonneg (not_lt.mp hr) hc.le)), fun h => mul_pos h hc⟩

/-- A positive real factor of the dividend is one of the quotient. -/
theorem div_mul_pos (hc : 0 < c) (x y : EReal) : Ideal.div (x * c) y = Ideal.div x y * c := by
  unfold Ideal.div
  split_ifs with h0 h1 h2 h2
  · rw [EReal.top_mul_coe_of_pos hc]
  · exact absurd ((mul_pos_iff hc x).mp h1) h2
  · exact absurd ((mul_pos_iff hc x).mpr h2) h1
  · rw [EReal.bot_mul_coe_of_pos hc]
  · rw [mul_assoc, mul_comm (c : EReal), ← mul_assoc]

/-- A positive real factor common to dividend and divisor cancels, the divisor positive. -/
theorem div_mul_mul_pos (hc : 0 < c) (r : ℝ) (y : EReal) (hy : 0 < y) :
    Ideal.div ((r : EReal) * c) (y * c) = Ideal.div r y := by
  have hyc : 0 < y * (c : EReal) := (mul_pos_iff hc y).mpr hy
  unfold Ideal.div
  rw [if_neg hyc.ne', if_neg hy.ne']
  induction y with
  | bot => simp at hy
  | top => rw [EReal.top_mul_coe_of_pos hc]; simp
  | coe s =>
    have hs : 0 < s := by exact_mod_cast hy
    rw [← EReal.coe_mul, ← EReal.coe_mul, ← EReal.coe_inv, ← EReal.coe_inv, ← EReal.coe_mul, ← EReal.coe_mul]
    congr 1
    field_simp

/-- A power of two at a base-two logarithm is the exponential. -/
theorem exp2_mul_inv_log (x : EReal) : Ideal.exp2 (x * (((Real.log 2)⁻¹ : ℝ) : EReal)) = Ideal.exp x := by
  have hl : 0 < Real.log 2 := Real.log_pos (by norm_num)
  have hc : 0 < (Real.log 2)⁻¹ := inv_pos.mpr hl
  induction x with
  | bot => rw [EReal.bot_mul_coe_of_pos hc]; rfl
  | top => rw [EReal.top_mul_coe_of_pos hc]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = _
    rw [Real.rpow_def_of_pos (by norm_num)]
    congr 1
    field_simp

end Factor

/-! ## Logarithms of quotients -/

/-- The logarithm of a positive real. -/
theorem log_real {r : ℝ} (hr : 0 < r) : Ideal.log (r : EReal) = ((Real.log r : ℝ) : EReal) := by
  rw [Ideal.log_coe, if_neg (not_le.mpr hr)]

/-- The logarithm of zero. -/
theorem log_zero : Ideal.log 0 = ⊥ := by
  rw [← EReal.coe_zero, Ideal.log_coe, if_pos le_rfl]

/-- The logarithm of a nonnegative extended real over a positive real. -/
theorem log_div_real (s : ℝ) (hs : 0 < s) (x : EReal) (hx : 0 ≤ x) :
    Ideal.log (Ideal.div x s) = Ideal.log x - ((Real.log s : ℝ) : EReal) := by
  unfold Ideal.div
  rw [if_neg (by exact_mod_cast hs.ne')]
  have hi : 0 < s⁻¹ := inv_pos.mpr hs
  rw [← EReal.coe_inv]
  induction x with
  | bot => simp at hx
  | top => rw [EReal.top_mul_coe_of_pos hi]; rw [Ideal.log_top, EReal.top_sub_coe]
  | coe r =>
    have hr : 0 ≤ r := by exact_mod_cast hx
    rw [← EReal.coe_mul]
    rcases hr.eq_or_lt with rfl | hr
    · rw [zero_mul, EReal.coe_zero, log_zero, EReal.bot_sub]
    · rw [log_real (mul_pos hr hi), log_real hr, ← EReal.coe_sub, ← div_eq_mul_inv, Real.log_div hr.ne' hs.ne']

/-- The logarithm of a ratio of two positive extended reals, the first at most the second, is the difference of the
    logarithms. -/
theorem log_div_le (x s : EReal) (hx : 0 < x) (hxs : x ≤ s) :
    Ideal.log (Ideal.div x s) = Ideal.log x - Ideal.log s := by
  induction s with
  | bot => simp at hxs; subst hxs; simp at hx
  | coe s =>
    have hs : 0 < s := by exact_mod_cast hx.trans_le hxs
    rw [log_div_real s hs x hx.le, log_real hs]
  | top =>
    unfold Ideal.div
    rw [if_neg (by simp), EReal.inv_top, mul_zero, log_zero, Ideal.log_top, EReal.sub_top]

/-- The logarithm of a ratio of that kind is not positive. -/
theorem log_sub_log_nonpos (x s : EReal) (hx : 0 < x) (hxs : x ≤ s) : Ideal.log x - Ideal.log s ≤ 0 := by
  induction s with
  | bot => simp at hxs; subst hxs; simp at hx
  | top => rw [Ideal.log_top, EReal.sub_top]; exact bot_le
  | coe s =>
    have hs : 0 < s := by exact_mod_cast hx.trans_le hxs
    induction x with
    | bot => simp at hx
    | top => simp at hxs
    | coe r =>
      have hr : 0 < r := by exact_mod_cast hx
      have hrs : r ≤ s := by exact_mod_cast hxs
      rw [log_real hs, log_real hr]
      norm_cast
      exact sub_nonpos.mpr (Real.log_le_log hr hrs)

/-- A nonnegative real multiple of it plus the logarithm of 448 has the exponential the product states. -/
theorem exp_mul_add (k : ℝ) (hk : 0 ≤ k) (L : EReal) (hL : L ≤ 0) :
    Ideal.exp ((k : EReal) * L + ((Real.log 448 : ℝ) : EReal)) = ((448 : ℝ) : EReal) * Ideal.exp ((k : EReal) * L) := by
  have key : ∀ r : ℝ, Ideal.exp ((r : EReal) + ((Real.log 448 : ℝ) : EReal)) = ((448 : ℝ) : EReal) * Ideal.exp (r : EReal) := by
    intro r
    rw [← EReal.coe_add]
    show ((Real.exp (r + Real.log 448) : ℝ) : EReal) = ((448 : ℝ) : EReal) * ((Real.exp r : ℝ) : EReal)
    rw [← EReal.coe_mul, Real.exp_add, Real.exp_log (by norm_num), mul_comm]
  induction L with
  | top => simp at hL
  | coe r => rw [← EReal.coe_mul]; exact key _
  | bot =>
    rcases hk.eq_or_lt with rfl | hk
    · simpa using key 0
    · rw [EReal.coe_mul_bot_of_pos hk, EReal.bot_add, Ideal.exp_bot, mul_zero]

/-! ## One element -/

/-- The factor from a natural logarithm to a base-two one. -/
def c2 : ℝ := (Real.log 2)⁻¹

theorem c2_pos : 0 < c2 := inv_pos.mpr (Real.log_pos (by norm_num))

/-- The magnitude. -/
def mag (x : EReal) : EReal := max x (-x)

theorem mag_nonneg (x : EReal) : 0 ≤ mag x := by
  unfold mag
  rcases le_total 0 x with h | h
  · exact le_max_of_le_left h
  · exact le_max_of_le_right (EReal.neg_nonneg.mpr h)

theorem nonneg_of_neg_nonpos {x : EReal} (h : -x ≤ 0) : 0 ≤ x := by simpa using EReal.neg_le_neg_iff.mpr h

theorem mag_eq_zero {x : EReal} (h : ¬ 0 < mag x) : x = 0 := by
  have h' := not_lt.mp h
  unfold mag at h'
  exact le_antisymm ((le_max_left _ _).trans h') (nonneg_of_neg_nonpos ((le_max_right _ _).trans h'))

/-- The sign, as a comparison with zero and two selects. -/
def sgn (x : EReal) : EReal := if 0 < mag x then (if x < 0 then ((-1 : ℝ) : EReal) else ((1 : ℝ) : EReal)) else x

theorem sgn_eq_zero {x : EReal} (h : ¬ 0 < mag x) : sgn x = 0 := by unfold sgn; rw [if_neg h, mag_eq_zero h]

/-- The kernel's dequantised value of a code `q` under a scale `s` and an exponent `k`. -/
def kdeq (q s k : EReal) : EReal :=
  sgn q * (s * Ideal.exp2 (Ideal.div (Ideal.log (mag q) * (((Real.log 2)⁻¹ : ℝ) : EReal)
    - ((Real.log 448 * (Real.log 2)⁻¹ : ℝ) : EReal)) k))

/-- The reference's. -/
def rdeq (q s k : EReal) : EReal :=
  if 0 < mag q then
    sgn q * s * Ideal.exp (Ideal.div (Ideal.log (Ideal.div (if 0 < mag q then mag q else ((448 : ℝ) : EReal)) ((448 : ℝ) : EReal))) k)
  else ((0 : ℝ) : EReal)

/-- The two dequantisations are one function. -/
theorem kdeq_eq_rdeq (q s k : EReal) : kdeq q s k = rdeq q s k := by
  unfold kdeq rdeq
  by_cases h : 0 < mag q
  · rw [if_pos h, if_pos h, log_div_real 448 (by norm_num) _ (mag_nonneg q), EReal.coe_mul (Real.log 448),
      ← sub_mul_pos (inv_pos.mpr (Real.log_pos (by norm_num))), div_mul_pos (inv_pos.mpr (Real.log_pos (by norm_num))),
      exp2_mul_inv_log, mul_assoc]
  · rw [if_neg h, sgn_eq_zero h, zero_mul]; rfl

/-! ## One group of 128 -/

/-- The greatest magnitude of a group. -/
def amax (x : Fin 128 → EReal) : EReal := Finset.univ.fold max ⊥ fun l => mag (x l)

/-- The least nonzero magnitude of a group, `⊤` where there is none. -/
def bmin (x : Fin 128 → EReal) : EReal := Finset.univ.fold min ⊤ fun l => if 0 < mag (x l) then mag (x l) else ⊤

/-- The group's scale. -/
def scale (x : Fin 128 → EReal) : EReal := if 0 < amax x then amax x else ((1 : ℝ) : EReal)

/-- The group's least magnitude as both programs use it. -/
def least (x : Fin 128 → EReal) : EReal := if 0 < amax x then bmin x else ((1 : ℝ) : EReal)

/-- The kernel's exponent of a group. -/
def kexpo (x : Fin 128 → EReal) : EReal :=
  if 0 < amax x then
    Ideal.div ((Real.log 229376 * (Real.log 2)⁻¹ : ℝ) : EReal)
      (max (Ideal.log (scale x) * (((Real.log 2)⁻¹ : ℝ) : EReal) - Ideal.log (least x) * (((Real.log 2)⁻¹ : ℝ) : EReal))
        ((1 / 8 * (Real.log 229376 * (Real.log 2)⁻¹) : ℝ) : EReal))
  else ((1 : ℝ) : EReal)

/-- The reference's. -/
def rexpo (x : Fin 128 → EReal) : EReal :=
  if 0 < amax x then
    Ideal.div ((Real.log 229376 : ℝ) : EReal)
      (max (Ideal.log (scale x) - Ideal.log (least x))
        (Ideal.div ((Real.log 229376 : ℝ) : EReal) ((8 : ℝ) : EReal)))
  else ((1 : ℝ) : EReal)

theorem log_range_pos : 0 < Real.log 229376 := Real.log_pos (by norm_num)

theorem eighth : Ideal.div ((Real.log 229376 : ℝ) : EReal) ((8 : ℝ) : EReal) = ((Real.log 229376 / 8 : ℝ) : EReal) := by
  rw [Ideal.div_coe (by norm_num), ← EReal.coe_mul]; congr 1; ring

/-- The two exponents are one function. -/
theorem kexpo_eq_rexpo (x : Fin 128 → EReal) : kexpo x = rexpo x := by
  have hc : 0 < (Real.log 2)⁻¹ := c2_pos
  unfold kexpo rexpo
  split_ifs with h
  · rw [eighth, show (1 / 8 * (Real.log 229376 * (Real.log 2)⁻¹) : ℝ) = Real.log 229376 / 8 * (Real.log 2)⁻¹ by ring,
      EReal.coe_mul, EReal.coe_mul, ← sub_mul_pos hc, ← max_mul_pos hc]
    refine div_mul_mul_pos hc _ _ (lt_max_of_lt_right ?_)
    have := log_range_pos
    exact_mod_cast (by positivity : 0 < Real.log 229376 / 8)
  · rfl

/-- The exponent is a nonnegative real. -/
theorem rexpo_real (x : Fin 128 → EReal) : ∃ k : ℝ, 0 ≤ k ∧ rexpo x = k := by
  unfold rexpo
  split_ifs with h
  · rw [eighth]
    have hl := log_range_pos
    generalize Ideal.log (scale x) - Ideal.log (least x) = d
    have hM : (0 : EReal) < max d ((Real.log 229376 / 8 : ℝ) : EReal) :=
      lt_max_of_lt_right (by exact_mod_cast (by positivity : 0 < Real.log 229376 / 8))
    generalize max d ((Real.log 229376 / 8 : ℝ) : EReal) = M at hM
    unfold Ideal.div
    rw [if_neg hM.ne']
    induction M with
    | bot => simp at hM
    | top => exact ⟨0, le_rfl, by simp⟩
    | coe r =>
      have hr : 0 < r := by exact_mod_cast hM
      exact ⟨Real.log 229376 * r⁻¹, by positivity, by norm_cast⟩
  · exact ⟨1, zero_le_one, rfl⟩

/-- Every magnitude of a group is at most the greatest. -/
theorem mag_le_amax (x : Fin 128 → EReal) (l : Fin 128) : mag (x l) ≤ amax x :=
  (Finset.le_fold_max (mag (x l))).mpr (Or.inr ⟨l, Finset.mem_univ l, le_rfl⟩)

/-- The kernel's code of lane `l`. -/
def kcode (x : Fin 128 → EReal) (l : Fin 128) : EReal :=
  sgn (x l) * min ((448 : ℝ) : EReal) (max ((0 : ℝ) : EReal)
    (Ideal.exp2 (kexpo x * (Ideal.log (mag (x l)) * (((Real.log 2)⁻¹ : ℝ) : EReal) - Ideal.log (scale x) * (((Real.log 2)⁻¹ : ℝ) : EReal))
      + ((Real.log 448 * (Real.log 2)⁻¹ : ℝ) : EReal))))

/-- The reference's. -/
def rcode (x : Fin 128 → EReal) (l : Fin 128) : EReal :=
  sgn (x l) * min ((448 : ℝ) : EReal) (max ((0 : ℝ) : EReal)
    (if 0 < mag (x l) then
      ((448 : ℝ) : EReal) * Ideal.exp (rexpo x * Ideal.log (Ideal.div (if 0 < mag (x l) then mag (x l) else ((1 : ℝ) : EReal)) (scale x)))
    else ((0 : ℝ) : EReal)))

/-- The two codes are one function. -/
theorem kcode_eq_rcode (x : Fin 128 → EReal) (l : Fin 128) : kcode x l = rcode x l := by
  have hc : 0 < (Real.log 2)⁻¹ := c2_pos
  unfold kcode rcode
  by_cases h : 0 < mag (x l)
  · rw [if_pos h, if_pos h]
    congr 3
    have hle : mag (x l) ≤ scale x := by
      unfold scale; rw [if_pos (h.trans_le (mag_le_amax x l))]; exact mag_le_amax x l
    obtain ⟨k, hk0, hk⟩ := rexpo_real x
    rw [log_div_le _ _ h hle, kexpo_eq_rexpo, hk, ← exp_mul_add k hk0 _ (log_sub_log_nonpos _ _ h hle), ← exp2_mul_inv_log,
      add_mul_pos hc, mul_assoc, sub_mul_pos hc, EReal.coe_mul (Real.log 448)]
  · rw [sgn_eq_zero h, zero_mul, zero_mul]

/-- The update of one parameter from the two dequantised, decayed moments; one text in both programs. -/
def upd (bc1 bc2 w m1 v1 eps wd : EReal) : EReal :=
  Ideal.div (Ideal.div m1 bc1) (Ideal.sqrt (Ideal.div v1 bc2) + eps) + wd * w

end Cert.Adam

end
-- ==== Proof.KernelLanes.lean ====
/- The kernel's values at one element, over the extended reals: each named payload of a trip, read at row `r` and lane `l`,
   is the scalar function of Proof/Scalars.lean. A column of a scale array is read as the greatest of a row whose other
   lanes hold `⊥`, which is the entry of that lane. -/
module

public import proofs.«01_k».proof.Proof.Gen.KernelIdeal.Value
public import proofs.«01_k».proof.Proof.Consts
public import proofs.«01_k».proof.Proof.Scalars
public import Idealize.ShloMosaic.Lib.Pointwise
public import Idealize.ShloMosaic.PureOps.Ideal.Laws

@[expose] public section

set_option maxRecDepth 16384

noncomputable section

namespace Cert.KernelIdeal.Lanes

open Idealize.ShloMosaic Idealize.ShloMosaic.TcCoe
open Cert.KernelIdeal Cert.KernelIdeal.Gen Cert.Adam

/-- The lane numbers the kernel compares with the trip's. -/
abbrev lanes : IVec S32x224 32 := iota .tc S32x224 32 [1] iota_S32x224_d1_w32

/-- The column of trip `k`. -/
def col (k : Fin k0_t1_loop.trips) : Fin 224 := ⟨k.val, Nat.lt_of_lt_of_le k.isLt k0_t1_abs.2.1⟩

/-- The greatest of a row masked to one lane is that lane's entry. -/
theorem fold_max_mask {n : ℕ} (f : Fin n → EReal) (k : Fin n) :
    (Finset.univ.fold max ⊥ fun l => if l = k then f l else ⊥) = f k := by
  apply le_antisymm
  · refine Finset.fold_max_le _ |>.mpr ⟨bot_le, fun l _ => ?_⟩
    split_ifs with h
    · rw [h]
    · exact bot_le
  · refine (Finset.le_fold_max _).mpr (Or.inr ⟨k, Finset.mem_univ k, ?_⟩)
    simp

/-- A lane number equals the trip's word exactly at the trip's column. -/
theorem cmp_lane (k : Fin k0_t1_loop.trips) (l : Fin 224) :
    IntOp.cmpi CmpIPredicate.eq (BitVec.ofNat 32 l.val) (Scf.iv 0#32 1#32 k.val) = BitVec.ofBool (decide (l = col k)) := by
  have hl := l.isLt
  have hk : k.val < 224 := (col k).isLt
  have h : (BitVec.ofNat 32 l.val = Scf.iv 0#32 1#32 k.val) ↔ l = col k := by
    unfold Scf.iv col
    rw [Fin.ext_iff, ← BitVec.toNat_inj]
    simp
    omega
  show BitVec.ofBool (decide _) = _
  congr 1
  exact decide_eq_decide.mpr h

/-- A column read. -/
theorem col_read (k : Fin k0_t1_loop.trips) (f : Fin 224 → EReal) :
    Finset.fold max (Ideal.ofBits FTy.f32 4286578688#32)
      (fun x => Scalar.select (IntOp.cmpi CmpIPredicate.eq (BitVec.ofNat 32 x.val) (Scf.iv 0#32 1#32 k.val)) (f x)
        (Ideal.ofBits FTy.f32 4286578688#32)) Finset.univ = f (col k) := by
  simp only [cmp_lane, Scalar.select_ofBool, Consts.ofBits_bot, decide_eq_true_eq]
  exact fold_max_mask f (col k)

theorem absf_eq (x : EReal) : (FloatOps.absf (F := Ideal) (φ := .f32) x) = mag x := rfl

/-- The first moment's dequantised code. -/
theorem deq_m (v4 v6 : FVec Ideal S32x224 .f32) (k : Fin k0_t1_loop.trips) (q : Vec Ideal S32x128 .fp8e4m3) (r : Fin 32) (l : Fin 128) :
    k0_pay16 lanes v4 v6 0#32 1#32 k q (ix2 r l) = kdeq (q (ix2 r l)) (v4 (ix2 r (col k))) (v6 (ix2 r (col k))) := by
  unfold_payloads
  pointwise
  rw [col_read k (fun x => v4 (ix2 r x)), col_read k (fun x => v6 (ix2 r x)), Consts.inv_ln2, Consts.log2_fp8_max, Consts.ofBits_neg_one]
  rfl

/-- The decayed first moment. -/
theorem mom_m (x : FVec Ideal S32x128 .f32) (g : Vec Ideal S32x128 .bf16) (r : Fin 32) (l : Fin 128) :
    k0_pay21 x g (ix2 r l) = Ideal.ofBits .f32 0x3F666666#32 * x (ix2 r l) + Ideal.ofBits .f32 0x3DCCCCCD#32 * g (ix2 r l) := by
  unfold_payloads
  pointwise

/-- The decayed second moment, its dequantised code inside. -/
theorem mom_v (v8 v10 : FVec Ideal S32x224 .f32) (k : Fin k0_t1_loop.trips) (q : Vec Ideal S32x128 .fp8e4m3)
    (g : Vec Ideal S32x128 .bf16) (r : Fin 32) (l : Fin 128) :
    k0_pay22 v10 (k0_pay15 lanes 0#32 1#32 k) (k0_pay17 q) (k0_pay18 lanes v8 0#32 1#32 k) k0_pay19 g (ix2 r l)
      = Ideal.ofBits .f32 0x3F733333#32 * kdeq (q (ix2 r l)) (v8 (ix2 r (col k))) (v10 (ix2 r (col k)))
        + Ideal.ofBits .f32 0x3D4CCCCD#32 * g (ix2 r l) * g (ix2 r l) := by
  unfold_payloads
  pointwise
  rw [col_read k (fun x => v8 (ix2 r x)), col_read k (fun x => v10 (ix2 r x)), Consts.inv_ln2, Consts.log2_fp8_max, Consts.ofBits_neg_one]
  rfl

/-- The update, from the two decayed moments. -/
theorem update (v0 v1 : Elt Ideal .f32) (v10 : FVec Ideal S32x224 .f32) (v24 : IVec S32x224 1) (v58 v62 : FVec Ideal S32x128 .f32)
    (v66 : FVec Ideal S32x1 .f32) (v67 : FVec Ideal S32x224 .f32) (g : Vec Ideal S32x128 .bf16) (w : Vec Ideal S32x128 .f32)
    (r : Fin 32) (l : Fin 128) :
    k0_pay24 (k0_pay23 v0 v1 v10 v24 v58 v62 v66 v67 g) w (ix2 r l)
      = upd v0 v1 (w (ix2 r l)) (k0_pay21 v58 g (ix2 r l)) (k0_pay22 v10 v24 v62 v66 v67 g (ix2 r l))
          (Ideal.ofBits .f32 0x322BCC77#32) (Ideal.ofBits .f32 0x3DCCCCCD#32) := by
  unfold k0_pay24 k0_pay23
  generalize k0_pay21 v58 g = a
  generalize k0_pay22 v10 v24 v62 v66 v67 g = b
  pointwise
  rfl

/-- The greatest magnitude of a row. -/
theorem amax_m (x : FVec Ideal S32x128 .f32) (r : Fin 32) (o : Fin 1) :
    k0_pay26 x (ix2 r o) = amax fun l => x (ix2 r l) := by
  unfold_payloads
  pointwise
  rw [Consts.ofBits_bot]; rfl

/-- The first moment's scale of a row. -/
theorem scale_m (x : FVec Ideal S32x128 .f32) (r : Fin 32) (o : Fin 1) :
    k0_pay28 x (ix2 r o) = scale fun l => x (ix2 r l) := by
  unfold_payloads
  pointwise
  rw [Consts.ofBits_bot]; rfl

/-- The second moment's: the same operations. -/
theorem scale_v (x : FVec Ideal S32x128 .f32) (r : Fin 32) (o : Fin 1) :
    k0_pay36 x (ix2 r o) = scale fun l => x (ix2 r l) := scale_m x r o

/-- The first moment's exponent of a row. -/
theorem expo_m (x : FVec Ideal S32x128 .f32) (r : Fin 32) (o : Fin 1) :
    k0_pay30 x (ix2 r o) = kexpo fun l => x (ix2 r l) := by
  unfold_payloads
  pointwise
  rw [Consts.ofBits_bot, Consts.ofBits_top, Consts.inv_ln2, Consts.log2_range, Consts.log2_range_over_k_max]; rfl

/-- The second moment's. -/
theorem expo_v (x : FVec Ideal S32x128 .f32) (r : Fin 32) (o : Fin 1) :
    k0_pay38 x (ix2 r o) = kexpo fun l => x (ix2 r l) := expo_m x r o

/-- The base-two logarithm of a row's scale. -/
theorem log_scale (x : FVec Ideal S32x128 .f32) (r : Fin 32) (o : Fin 1) :
    k0_pay29 x (ix2 r o) = Ideal.log (scale fun l => x (ix2 r l)) * (((Real.log 2)⁻¹ : ℝ) : EReal) := by
  rw [← scale_m x r o, ← Consts.inv_ln2]; rfl

/-- The first moment's new code. -/
theorem code_m (x : FVec Ideal S32x128 .f32) (r : Fin 32) (l : Fin 128) :
    k0_pay9 (k0_pay32 x (k0_pay31 x)) (ix2 r l) = kcode (fun l => x (ix2 r l)) l := by
  have hs : ∀ o, k0_pay29 x (ix2 r o) = _ := log_scale x r
  have he : ∀ o, k0_pay30 x (ix2 r o) = _ := expo_m x r
  revert hs he
  unfold k0_pay9 k0_pay32 k0_pay31 k0_pay25
  generalize k0_pay29 x = a
  generalize k0_pay30 x = b
  intro hs he
  pointwise
  rw [hs, he, Consts.inv_ln2, Consts.log2_fp8_max, Consts.ofBits_neg_one, Consts.ofBits_448]
  rfl

/-- The second moment's. -/
theorem code_v (x : FVec Ideal S32x128 .f32) (r : Fin 32) (l : Fin 128) :
    k0_pay10 x (k0_pay37 x) (k0_pay38 x) (k0_pay39 x) (Named.named κ "inv_ln2" 0x3FB8AA3B#32) (ix2 r l)
      = kcode (fun l => x (ix2 r l)) l := code_m x r l

/-- A carried array of one value a group: the trip writes its own column. -/
theorem put (a : FVec Ideal S32x224 .f32) (k : Fin k0_t1_loop.trips) (x : FVec Ideal S32x1 .f32) (r : Fin 32) (j : Fin 224) :
    k0_pay11 a (k0_pay15 lanes 0#32 1#32 k) x (ix2 r j) = if j = col k then x (ix2 r 0) else a (ix2 r j) := by
  unfold_payloads
  pointwise
  rw [cmp_lane, Scalar.select_ofBool]
  simp only [decide_eq_true_eq]

end Cert.KernelIdeal.Lanes

end
-- ==== Proof.Rows.lean ====
/- One row of the problem: the parameter, the gradient, the two codes, and per group of 128 the scales and exponents; and
   the seven results of that row. Both programs' arrays are these, row by row. -/
module

public import proofs.«01_k».proof.Proof.Scalars

@[expose] public section

noncomputable section

namespace Cert.Adam

open Idealize.ShloMosaic

/-- The group of a column. -/
def grp (a : Fin 28672) : Fin 224 := ⟨a.val / 128, by omega⟩

/-- The lane of a column in its group. -/
def lan (a : Fin 28672) : Fin 128 := ⟨a.val % 128, by omega⟩

/-- The column of lane `l` of group `j`. -/
def colAt (j : Fin 224) (l : Fin 128) : Fin 28672 := ⟨128 * j.val + l.val, by omega⟩

theorem grp_colAt (j : Fin 224) (l : Fin 128) : grp (colAt j l) = j := by
  apply Fin.ext; show (128 * j.val + l.val) / 128 = j.val; omega

theorem lan_colAt (j : Fin 224) (l : Fin 128) : lan (colAt j l) = l := by
  apply Fin.ext; show (128 * j.val + l.val) % 128 = l.val; omega

theorem colAt_grp_lan (a : Fin 28672) : colAt (grp a) (lan a) = a := by
  apply Fin.ext; show 128 * (a.val / 128) + a.val % 128 = a.val; omega

/-- A row's arguments, with the two bias corrections. -/
structure Row where
  w : Fin 28672 → EReal
  g : Fin 28672 → EReal
  qm : Fin 28672 → EReal
  sm : Fin 224 → EReal
  km : Fin 224 → EReal
  qv : Fin 28672 → EReal
  sv : Fin 224 → EReal
  kv : Fin 224 → EReal
  bc1 : EReal
  bc2 : EReal

/-- Two rows with the same entries are the same. -/
theorem row_ext {x y : Row} (h1 : x.w = y.w) (h2 : x.g = y.g) (h3 : x.qm = y.qm) (h4 : x.sm = y.sm) (h5 : x.km = y.km)
    (h6 : x.qv = y.qv) (h7 : x.sv = y.sv) (h8 : x.kv = y.kv) (h9 : x.bc1 = y.bc1) (h10 : x.bc2 = y.bc2) : x = y := by
  cases x; cases y; simp_all

namespace Row

variable (x : Row)

/-- The decayed first moment. -/
def m (a : Fin 28672) : EReal :=
  Ideal.ofBits .f32 0x3F666666#32 * kdeq (x.qm a) (x.sm (grp a)) (x.km (grp a)) + Ideal.ofBits .f32 0x3DCCCCCD#32 * x.g a

/-- The decayed second moment. -/
def v (a : Fin 28672) : EReal :=
  Ideal.ofBits .f32 0x3F733333#32 * kdeq (x.qv a) (x.sv (grp a)) (x.kv (grp a))
    + Ideal.ofBits .f32 0x3D4CCCCD#32 * x.g a * x.g a

/-- The first moment's group `j`. -/
def mg (j : Fin 224) : Fin 128 → EReal := fun l => x.m (colAt j l)

/-- The second moment's. -/
def vg (j : Fin 224) : Fin 128 → EReal := fun l => x.v (colAt j l)

/-- The update. -/
def u (a : Fin 28672) : EReal :=
  upd x.bc1 x.bc2 (x.w a) (x.m a) (x.v a) (Ideal.ofBits .f32 0x322BCC77#32) (Ideal.ofBits .f32 0x3DCCCCCD#32)

/-- The first moment's new codes, scales and exponents. -/
def codeM (a : Fin 28672) : EReal := kcode (x.mg (grp a)) (lan a)
def scaleM (j : Fin 224) : EReal := scale (x.mg j)
def expoM (j : Fin 224) : EReal := kexpo (x.mg j)

/-- The second moment's. -/
def codeV (a : Fin 28672) : EReal := kcode (x.vg (grp a)) (lan a)
def scaleV (j : Fin 224) : EReal := scale (x.vg j)
def expoV (j : Fin 224) : EReal := kexpo (x.vg j)

end Row

end Cert.Adam

end
-- ==== Proof.KernelLoop.lean ====
/- The kernel's counted loop, one trip a group of 128 columns: what a trip stores and yields, and by induction what the
   trips so far have left — in the three arrays written a group at a time, and in the four carried ones, the columns of
   the groups done hold the results of Proof/Rows.lean. -/
module

public import proofs.«01_k».proof.Proof.KernelLanes
public import proofs.«01_k».proof.Proof.Rows

@[expose] public section

set_option maxRecDepth 16384

noncomputable section

namespace Cert.KernelIdeal.Loop

open Idealize.ShloMosaic Idealize.ShloMosaic.TcCoe Idealize.ShloMosaic.Tactic
open Cert.KernelIdeal Cert.KernelIdeal.Gen Cert.KernelIdeal.Lanes Cert.Adam

/-- The carried arrays: scales and exponents of the two moments. -/
abbrev Acc := FVec Ideal S32x224 .f32 × FVec Ideal S32x224 .f32 × FVec Ideal S32x224 .f32 × FVec Ideal S32x224 .f32

/-- The columns of trip `k`. -/
abbrev rect (k : Fin k0_t1_loop.trips) : Rect S32x28672 :=
  Rect.unit (s := S32x28672) (k0_off1 k) S32x128.size (k0_off1_inb k)

/-- An element of a trip's columns, in the block. -/
theorem rect_idx (k : Fin k0_t1_loop.trips) (r : Fin 32) (l : Fin 128) : (rect k).idx (ix2 r l) = ix2 r (colAt (col k) l) := by
  have h := k0_off1_eq k
  funext a
  apply Fin.ext
  match a with
  | ⟨0, _⟩ => show k0_off1 k 0 + 1 * r.val = r.val; rw [h]; simp
  | ⟨1, _⟩ => show k0_off1 k 1 + 1 * l.val = 128 * k.val + l.val; rw [h]; simp

/-- An element of another group is not among them. -/
theorem not_mem_rect (k : Fin k0_t1_loop.trips) (r : Fin 32) (j : Fin 224) (l : Fin 128) (h : j ≠ col k) :
    (ix2 r (colAt j l) : S32x28672.Idx) ∉ (rect k).set := by
  intro hm
  have h1 := (Rect.mem_set_unit.mp hm) 1
  rw [k0_off1_eq k] at h1
  have h2 : 128 * k.val ≤ 128 * j.val + l.val ∧ 128 * j.val + l.val < 128 * k.val + 128 := h1
  exact h (Fin.ext (by show j.val = k.val; omega))

section Pieces

variable {e : EltTy} (k : Fin k0_t1_loop.trips) (p : Vec Ideal S32x128 e) (L : List (View.Piece (Elt Ideal) S32x28672 e))

/-- After a trip's store, its own columns hold the stored block … -/
theorem canon_own (r : Fin 32) (l : Fin 128) : View.canon (⟨rect k, p⟩ :: L) (ix2 r (colAt (col k) l)) = p (ix2 r l) := by
  rw [← rect_idx]; exact View.canon_cons_emb (rect k) p L (ix2 r l)

/-- … and another group's hold what they held. -/
theorem canon_other (r : Fin 32) (j : Fin 224) (l : Fin 128) (h : j ≠ col k) :
    View.canon (⟨rect k, p⟩ :: L) (ix2 r (colAt j l)) = View.canon L (ix2 r (colAt j l)) :=
  View.canon_cons_of_not_mem _ L (not_mem_rect k r j l h)

end Pieces

section Trip

variable (𝒱 : Variants) (c : Dev nD) (bd : Option 𝒱.V) (i : grid0.Coords)
  (arg1 : Memref sig .tc .smem S2 .f32) (harg1 : arg1.IsWhole)
  (arg2 : Memref sig .tc .vmem S32x28672 .f32) (harg2 : arg2.IsWhole)
  (arg3 : Memref sig .tc .vmem S32x28672 .bf16) (harg3 : arg3.IsWhole)
  (arg4 : Memref sig .tc .vmem S32x28672 .fp8e4m3) (harg4 : arg4.IsWhole)
  (arg5 : Memref sig .tc .vmem S32x224 .f32) (harg5 : arg5.IsWhole)
  (arg6 : Memref sig .tc .vmem S32x224 .f32) (harg6 : arg6.IsWhole)
  (arg7 : Memref sig .tc .vmem S32x28672 .fp8e4m3) (harg7 : arg7.IsWhole)
  (arg8 : Memref sig .tc .vmem S32x224 .f32) (harg8 : arg8.IsWhole)
  (arg9 : Memref sig .tc .vmem S32x224 .f32) (harg9 : arg9.IsWhole)
  (arg10 : Memref sig .tc .vmem S32x28672 .f32) (harg10 : arg10.IsWhole)
  (arg11 : Memref sig .tc .vmem S32x28672 .fp8e4m3) (harg11 : arg11.IsWhole)
  (arg12 : Memref sig .tc .vmem S32x224 .f32) (harg12 : arg12.IsWhole)
  (arg13 : Memref sig .tc .vmem S32x224 .f32) (harg13 : arg13.IsWhole)
  (arg14 : Memref sig .tc .vmem S32x28672 .fp8e4m3) (harg14 : arg14.IsWhole)
  (arg15 : Memref sig .tc .vmem S32x224 .f32) (harg15 : arg15.IsWhole)
  (arg16 : Memref sig .tc .vmem S32x224 .f32) (harg16 : arg16.IsWhole)
  (v0 v1 : Elt Ideal .f32) (v2 : IVec S32x224 32) (v3 v5 v7 v9 : Vec Ideal S32x224 .f32)
  (X2 : BufTy.Contents (Elt Ideal) arg2.view.ty) (X3 : BufTy.Contents (Elt Ideal) arg3.view.ty)
  (X4 : BufTy.Contents (Elt Ideal) arg4.view.ty) (X7 : BufTy.Contents (Elt Ideal) arg7.view.ty)

/-- The first moment trip `k` computes, from the blocks it reads. -/
def tm (v3 v5 : Vec Ideal S32x224 .f32) (k : Fin k0_t1_loop.trips) (q : Vec Ideal S32x128 .fp8e4m3) (g : Vec Ideal S32x128 .bf16) :
    FVec Ideal S32x128 .f32 :=
  k0_pay21 (k0_pay16 lanes (k0_pay1 v3) (k0_pay2 v5) 0#32 1#32 k q) g

/-- The second. -/
def tv (v7 v9 : Vec Ideal S32x224 .f32) (k : Fin k0_t1_loop.trips) (q : Vec Ideal S32x128 .fp8e4m3) (g : Vec Ideal S32x128 .bf16) :
    FVec Ideal S32x128 .f32 :=
  k0_pay22 (k0_pay4 v9) (k0_pay15 lanes 0#32 1#32 k) (k0_pay17 q) (k0_pay18 lanes (k0_pay3 v7) 0#32 1#32 k) k0_pay19 g

/-- The update. -/
def tu (v0 v1 : Elt Ideal .f32) (v3 v5 v7 v9 : Vec Ideal S32x224 .f32) (k : Fin k0_t1_loop.trips)
    (qm qv : Vec Ideal S32x128 .fp8e4m3) (g : Vec Ideal S32x128 .bf16) (w : Vec Ideal S32x128 .f32) : FVec Ideal S32x128 .f32 :=
  k0_pay24 (k0_pay23 v0 v1 (k0_pay4 v9) (k0_pay15 lanes 0#32 1#32 k) (k0_pay16 lanes (k0_pay1 v3) (k0_pay2 v5) 0#32 1#32 k qm)
    (k0_pay17 qv) (k0_pay18 lanes (k0_pay3 v7) 0#32 1#32 k) k0_pay19 g) w

/-- A moment's codes. -/
def qm (x : FVec Ideal S32x128 .f32) : Vec Ideal S32x128 .fp8e4m3 := k0_pay9 (k0_pay32 x (k0_pay31 x))
def qv (x : FVec Ideal S32x128 .f32) : Vec Ideal S32x128 .fp8e4m3 :=
  k0_pay10 x (k0_pay37 x) (k0_pay38 x) (k0_pay39 x) (Named.named κ "inv_ln2" 0x3FB8AA3B#32)

/-- What a trip yields: the carried arrays with its column written. -/
theorem trip_R (k : Fin k0_t1_loop.trips) (acc : Acc) :
    tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 lanes v3 v5 v7 v9 X2 X3 X4 X7 k acc
      = (k0_pay11 acc.1 (k0_pay15 lanes 0#32 1#32 k) (k0_pay28 (tm v3 v5 k (arg4.view.readAt (Elt Ideal) (rect k).toLoadRect X4) (arg3.view.readAt (Elt Ideal) (rect k).toLoadRect X3))),
         k0_pay12 acc.2.1 (k0_pay15 lanes 0#32 1#32 k) (k0_pay30 (tm v3 v5 k (arg4.view.readAt (Elt Ideal) (rect k).toLoadRect X4) (arg3.view.readAt (Elt Ideal) (rect k).toLoadRect X3))),
         k0_pay13 acc.2.2.1 (k0_pay15 lanes 0#32 1#32 k) (k0_pay36 (tv v7 v9 k (arg7.view.readAt (Elt Ideal) (rect k).toLoadRect X7) (arg3.view.readAt (Elt Ideal) (rect k).toLoadRect X3))),
         k0_pay14 acc.2.2.2 (k0_pay15 lanes 0#32 1#32 k) (k0_pay38 (tv v7 v9 k (arg7.view.readAt (Elt Ideal) (rect k).toLoadRect X7) (arg3.view.readAt (Elt Ideal) (rect k).toLoadRect X3)))) := by
  unfold tripR_k0_t1 trip_k0_t1
  rfl

/-- What a trip stores. -/
theorem trip_L (k : Fin k0_t1_loop.trips) (acc : Acc) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 lanes v3 v5 v7 v9 X2 X3 X4 X7 k acc
      = ([⟨rect k, tu v0 v1 v3 v5 v7 v9 k (arg4.view.readAt (Elt Ideal) (rect k).toLoadRect X4) (arg7.view.readAt (Elt Ideal) (rect k).toLoadRect X7)
            (arg3.view.readAt (Elt Ideal) (rect k).toLoadRect X3) (arg2.view.readAt (Elt Ideal) (rect k).toLoadRect X2)⟩],
         [⟨rect k, qm (tm v3 v5 k (arg4.view.readAt (Elt Ideal) (rect k).toLoadRect X4) (arg3.view.readAt (Elt Ideal) (rect k).toLoadRect X3))⟩],
         [⟨rect k, qv (tv v7 v9 k (arg7.view.readAt (Elt Ideal) (rect k).toLoadRect X7) (arg3.view.readAt (Elt Ideal) (rect k).toLoadRect X3))⟩]) := by
  unfold tripL_k0_t1 trip_k0_t1
  rfl

end Trip

/-- Row `r` of a block's arguments. -/
def row (x1 : Vec Ideal S32x28672 .f32) (x2 : Vec Ideal S32x28672 .bf16) (x3 : Vec Ideal S32x28672 .fp8e4m3)
    (x4 x5 : Vec Ideal S32x224 .f32) (x6 : Vec Ideal S32x28672 .fp8e4m3) (x7 x8 : Vec Ideal S32x224 .f32) (v0 v1 : Elt Ideal .f32)
    (r : Fin 32) : Row where
  w a := x1 (ix2 r a)
  g a := x2 (ix2 r a)
  qm a := x3 (ix2 r a)
  sm j := x4 (ix2 r j)
  km j := x5 (ix2 r j)
  qv a := x6 (ix2 r a)
  sv j := x7 (ix2 r j)
  kv j := x8 (ix2 r j)
  bc1 := v0
  bc2 := v1

section Values

variable (x1 : Vec Ideal S32x28672 .f32) (x2 : Vec Ideal S32x28672 .bf16) (x3 : Vec Ideal S32x28672 .fp8e4m3)
  (x4 x5 : Vec Ideal S32x224 .f32) (x6 : Vec Ideal S32x28672 .fp8e4m3) (x7 x8 : Vec Ideal S32x224 .f32) (v0 v1 : Elt Ideal .f32)

/-- What a load of a trip's columns reads of a buffer holding `x`. -/
theorem load {sp : Space} {e : EltTy} (a : Memref sig .tc sp S32x28672 e) (h : a.IsWhole) (x : Vec Ideal S32x28672 e)
    (k : Fin k0_t1_loop.trips) (r : Fin 32) (l : Fin 128) :
    a.view.readAt (Elt Ideal) (rect k).toLoadRect (h.unread x) (ix2 r l) = x (ix2 r (colAt (col k) l)) := by
  rw [View.readAt_eq_ld, h.read_unread]
  exact congrArg x (rect_idx k r l)

section Trip

variable (k : Fin k0_t1_loop.trips) (q q' : Vec Ideal S32x128 .fp8e4m3) (g : Vec Ideal S32x128 .bf16) (w : Vec Ideal S32x128 .f32)
  (hq : ∀ r l, q (ix2 r l) = x3 (ix2 r (colAt (col k) l))) (hq' : ∀ r l, q' (ix2 r l) = x6 (ix2 r (colAt (col k) l)))
  (hg : ∀ r l, g (ix2 r l) = x2 (ix2 r (colAt (col k) l))) (hw : ∀ r l, w (ix2 r l) = x1 (ix2 r (colAt (col k) l)))

include hq hg in
/-- The trip's first moment is the row's, at the trip's group. -/
theorem tm_apply (r : Fin 32) (l : Fin 128) :
    tm x4 x5 k q g (ix2 r l) = (row x1 x2 x3 x4 x5 x6 x7 x8 v0 v1 r).m (colAt (col k) l) := by
  unfold tm k0_pay1 k0_pay2
  rw [mom_m, deq_m, shapeCast_self, shapeCast_self, hq, hg]
  unfold Row.m row
  rw [grp_colAt]

include hq' hg in
/-- The trip's second moment. -/
theorem tv_apply (r : Fin 32) (l : Fin 128) :
    tv x7 x8 k q' g (ix2 r l) = (row x1 x2 x3 x4 x5 x6 x7 x8 v0 v1 r).v (colAt (col k) l) := by
  unfold tv k0_pay3 k0_pay4
  rw [mom_v, shapeCast_self, shapeCast_self, hq', hg]
  unfold Row.v row
  rw [grp_colAt]

include hq hq' hg hw in
/-- The trip's update. -/
theorem tu_apply (r : Fin 32) (l : Fin 128) :
    tu v0 v1 x4 x5 x7 x8 k q q' g w (ix2 r l) = (row x1 x2 x3 x4 x5 x6 x7 x8 v0 v1 r).u (colAt (col k) l) := by
  have h1 := tm_apply x1 x2 x3 x4 x5 x6 x7 x8 v0 v1 k q g hq hg r l
  have h2 := tv_apply x1 x2 x3 x4 x5 x6 x7 x8 v0 v1 k q' g hq' hg r l
  unfold tm at h1
  unfold tv at h2
  unfold tu
  rw [update, h1, h2, hw]
  rfl

end Trip

/-- The results of the groups below `n` are in place: in the four carried arrays and the three written ones. -/
def Done (n : ℕ) (s : Acc × List (View.Piece (Elt Ideal) S32x28672 .f32) × List (View.Piece (Elt Ideal) S32x28672 .fp8e4m3)
    × List (View.Piece (Elt Ideal) S32x28672 .fp8e4m3)) : Prop :=
  ∀ (r : Fin 32) (j : Fin 224), j.val < n →
    (s.1.1 (ix2 r j) = (row x1 x2 x3 x4 x5 x6 x7 x8 v0 v1 r).scaleM j
      ∧ s.1.2.1 (ix2 r j) = (row x1 x2 x3 x4 x5 x6 x7 x8 v0 v1 r).expoM j
      ∧ s.1.2.2.1 (ix2 r j) = (row x1 x2 x3 x4 x5 x6 x7 x8 v0 v1 r).scaleV j
      ∧ s.1.2.2.2 (ix2 r j) = (row x1 x2 x3 x4 x5 x6 x7 x8 v0 v1 r).expoV j)
    ∧ ∀ l : Fin 128, View.canon s.2.1 (ix2 r (colAt j l)) = (row x1 x2 x3 x4 x5 x6 x7 x8 v0 v1 r).u (colAt j l)
      ∧ View.canon s.2.2.1 (ix2 r (colAt j l)) = (row x1 x2 x3 x4 x5 x6 x7 x8 v0 v1 r).codeM (colAt j l)
      ∧ View.canon s.2.2.2 (ix2 r (colAt j l)) = (row x1 x2 x3 x4 x5 x6 x7 x8 v0 v1 r).codeV (colAt j l)

variable (𝒱 : Variants) (c : Dev nD) (bd : Option 𝒱.V) (i : grid0.Coords)
  (arg1 : Memref sig .tc .smem S2 .f32) (harg1 : arg1.IsWhole)
  (arg2 : Memref sig .tc .vmem S32x28672 .f32) (harg2 : arg2.IsWhole)
  (arg3 : Memref sig .tc .vmem S32x28672 .bf16) (harg3 : arg3.IsWhole)
  (arg4 : Memref sig .tc .vmem S32x28672 .fp8e4m3) (harg4 : arg4.IsWhole)
  (arg5 : Memref sig .tc .vmem S32x224 .f32) (harg5 : arg5.IsWhole)
  (arg6 : Memref sig .tc .vmem S32x224 .f32) (harg6 : arg6.IsWhole)
  (arg7 : Memref sig .tc .vmem S32x28672 .fp8e4m3) (harg7 : arg7.IsWhole)
  (arg8 : Memref sig .tc .vmem S32x224 .f32) (harg8 : arg8.IsWhole)
  (arg9 : Memref sig .tc .vmem S32x224 .f32) (harg9 : arg9.IsWhole)
  (arg10 : Memref sig .tc .vmem S32x28672 .f32) (harg10 : arg10.IsWhole)
  (arg11 : Memref sig .tc .vmem S32x28672 .fp8e4m3) (harg11 : arg11.IsWhole)
  (arg12 : Memref sig .tc .vmem S32x224 .f32) (harg12 : arg12.IsWhole)
  (arg13 : Memref sig .tc .vmem S32x224 .f32) (harg13 : arg13.IsWhole)
  (arg14 : Memref sig .tc .vmem S32x28672 .fp8e4m3) (harg14 : arg14.IsWhole)
  (arg15 : Memref sig .tc .vmem S32x224 .f32) (harg15 : arg15.IsWhole)
  (arg16 : Memref sig .tc .vmem S32x224 .f32) (harg16 : arg16.IsWhole)

/-- After `n` trips the first `n` groups are done. -/
theorem done (init : Acc) : ∀ n : ℕ, n ≤ k0_t1_loop.trips →
    Done x1 x2 x3 x4 x5 x6 x7 x8 v0 v1 n (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 lanes x4 x5 x7 x8
      (harg2.unread x1) (harg3.unread x2) (harg4.unread x3) (harg7.unread x6) init n)
  | 0, _ => fun r j hj => absurd hj (Nat.not_lt_zero _)
  | n + 1, hn => by
    have ih := done init n (Nat.le_of_succ_le hn)
    obtain ⟨k, rfl⟩ : ∃ k : Fin k0_t1_loop.trips, k.val = n := ⟨⟨n, hn⟩, rfl⟩
    rw [st_k0_t1_succ, trip_R, trip_L]
    revert ih
    generalize st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 lanes x4 x5 x7 x8
      (harg2.unread x1) (harg3.unread x2) (harg4.unread x3) (harg7.unread x6) init k.val = s
    intro ih r j hj
    have hm := tm_apply x1 x2 x3 x4 x5 x6 x7 x8 v0 v1 k _ _ (load arg4 harg4 x3 k) (load arg3 harg3 x2 k)
    have hv := tv_apply x1 x2 x3 x4 x5 x6 x7 x8 v0 v1 k _ _ (load arg7 harg7 x6 k) (load arg3 harg3 x2 k)
    have hu := tu_apply x1 x2 x3 x4 x5 x6 x7 x8 v0 v1 k _ _ _ _ (load arg4 harg4 x3 k) (load arg7 harg7 x6 k)
      (load arg3 harg3 x2 k) (load arg2 harg2 x1 k)
    by_cases hjk : j = col k
    · subst hjk
      refine ⟨⟨?_, ?_, ?_, ?_⟩, fun l => ⟨?_, ?_, ?_⟩⟩
      · refine (put _ k _ r _).trans ?_
        rw [if_pos rfl, scale_m]
        exact congrArg scale (funext fun l => hm r l)
      · refine (put _ k _ r _).trans ?_
        rw [if_pos rfl, expo_m]
        exact congrArg kexpo (funext fun l => hm r l)
      · refine (put _ k _ r _).trans ?_
        rw [if_pos rfl, scale_v]
        exact congrArg scale (funext fun l => hv r l)
      · refine (put _ k _ r _).trans ?_
        rw [if_pos rfl, expo_v]
        exact congrArg kexpo (funext fun l => hv r l)
      · exact (canon_own k _ _ r l).trans (hu r l)
      · refine (canon_own k _ _ r l).trans ((code_m _ r l).trans ?_)
        unfold Row.codeM
        rw [grp_colAt, lan_colAt]
        exact congrArg (kcode · l) (funext fun l => hm r l)
      · refine (canon_own k _ _ r l).trans ((code_v _ r l).trans ?_)
        unfold Row.codeV
        rw [grp_colAt, lan_colAt]
        exact congrArg (kcode · l) (funext fun l => hv r l)
    · have hlt : j.val < k.val := lt_of_le_of_ne (Nat.lt_succ_iff.mp hj) fun h => hjk (Fin.ext h)
      obtain ⟨⟨a1, a2, a3, a4⟩, b⟩ := ih r j hlt
      refine ⟨⟨?_, ?_, ?_, ?_⟩, fun l => ⟨?_, ?_, ?_⟩⟩
      · exact (put _ k _ r _).trans ((if_neg hjk).trans a1)
      · exact (put _ k _ r _).trans ((if_neg hjk).trans a2)
      · exact (put _ k _ r _).trans ((if_neg hjk).trans a3)
      · exact (put _ k _ r _).trans ((if_neg hjk).trans a4)
      · exact (canon_other k _ _ r j l hjk).trans (b l).1
      · exact (canon_other k _ _ r j l hjk).trans (b l).2.1
      · exact (canon_other k _ _ r j l hjk).trans (b l).2.2

end Values

end Cert.KernelIdeal.Loop

end
-- ==== Proof.KernelBlock.lean ====
/- What one grid point leaves in its seven output blocks: the loop's final state, every group done, read row by row as the
   results of Proof/Rows.lean. -/
module

public import proofs.«01_k».proof.Proof.KernelLoop

@[expose] public section

set_option maxRecDepth 16384

noncomputable section

namespace Cert.KernelIdeal.Block

open Idealize.ShloMosaic Idealize.ShloMosaic.TcCoe Idealize.ShloMosaic.Tactic
open Cert.KernelIdeal Cert.KernelIdeal.Gen Cert.KernelIdeal.Lanes Cert.KernelIdeal.Loop Cert.Adam

variable (x0 : Vec Ideal S2 .f32) (x1 : Vec Ideal S32x28672 .f32) (x2 : Vec Ideal S32x28672 .bf16) (x3 : Vec Ideal S32x28672 .fp8e4m3)
  (x4 x5 : Vec Ideal S32x224 .f32) (x6 : Vec Ideal S32x28672 .fp8e4m3) (x7 x8 : Vec Ideal S32x224 .f32)

variable (c : Dev nD) (i : grid0.Coords)
  (arg1 : Memref sig .tc .smem S2 .f32) (harg1 : arg1.IsWhole)
  (arg2 : Memref sig .tc .vmem S32x28672 .f32) (harg2 : arg2.IsWhole)
  (arg3 : Memref sig .tc .vmem S32x28672 .bf16) (harg3 : arg3.IsWhole)
  (arg4 : Memref sig .tc .vmem S32x28672 .fp8e4m3) (harg4 : arg4.IsWhole)
  (arg5 : Memref sig .tc .vmem S32x224 .f32) (harg5 : arg5.IsWhole)
  (arg6 : Memref sig .tc .vmem S32x224 .f32) (harg6 : arg6.IsWhole)
  (arg7 : Memref sig .tc .vmem S32x28672 .fp8e4m3) (harg7 : arg7.IsWhole)
  (arg8 : Memref sig .tc .vmem S32x224 .f32) (harg8 : arg8.IsWhole)
  (arg9 : Memref sig .tc .vmem S32x224 .f32) (harg9 : arg9.IsWhole)
  (arg10 : Memref sig .tc .vmem S32x28672 .f32) (harg10 : arg10.IsWhole)
  (arg11 : Memref sig .tc .vmem S32x28672 .fp8e4m3) (harg11 : arg11.IsWhole)
  (arg12 : Memref sig .tc .vmem S32x224 .f32) (harg12 : arg12.IsWhole)
  (arg13 : Memref sig .tc .vmem S32x224 .f32) (harg13 : arg13.IsWhole)
  (arg14 : Memref sig .tc .vmem S32x28672 .fp8e4m3) (harg14 : arg14.IsWhole)
  (arg15 : Memref sig .tc .vmem S32x224 .f32) (harg15 : arg15.IsWhole)
  (arg16 : Memref sig .tc .vmem S32x224 .f32) (harg16 : arg16.IsWhole)

theorem hz : (![0, 0] : Fin 2 → Nat) = fun _ => 0 := funext fun a => by fin_cases a <;> rfl

/-- Row `r` of a point's input blocks. -/
abbrev brow (r : Fin 32) : Row := row x1 x2 x3 x4 x5 x6 x7 x8 (x0 (ix1 0)) (x0 (ix1 1)) r

/-- The loop's state after its last trip. -/
abbrev final := st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  (arg1.view.readAt (Elt Ideal) (Rect.unit (s := S2) ![0] S1.size inb_S2_S1_0).toLoadRect (harg1.unread x0) (Shape.Idx.first (show 0 < S1.numel by rw [numel1_S1]; exact Nat.one_pos)))
  (arg1.view.readAt (Elt Ideal) (Rect.unit (s := S2) ![1] S1.size inb_S2_S1_1).toLoadRect (harg1.unread x0) (Shape.Idx.first (show 0 < S1.numel by rw [numel1_S1]; exact Nat.one_pos)))
  lanes
  (arg5.view.readAt (Elt Ideal) (Rect.unit (s := S32x224) ![0, 0] S32x224.size inb_S32x224_S32x224_0_0).toLoadRect (harg5.unread x4))
  (arg6.view.readAt (Elt Ideal) (Rect.unit (s := S32x224) ![0, 0] S32x224.size inb_S32x224_S32x224_0_0).toLoadRect (harg6.unread x5))
  (arg8.view.readAt (Elt Ideal) (Rect.unit (s := S32x224) ![0, 0] S32x224.size inb_S32x224_S32x224_0_0).toLoadRect (harg8.unread x7))
  (arg9.view.readAt (Elt Ideal) (Rect.unit (s := S32x224) ![0, 0] S32x224.size inb_S32x224_S32x224_0_0).toLoadRect (harg9.unread x8))
  (harg2.unread x1) (harg3.unread x2) (harg4.unread x3) (harg7.unread x6) (k0_pay5, k0_pay6, k0_pay7, k0_pay8) k0_t1_loop.trips

/-- A whole load of a scale or exponent block. -/
theorem load_whole {sp : Space} (a : Memref sig .tc sp S32x224 .f32) (h : a.IsWhole) (x : Vec Ideal S32x224 .f32) :
    a.view.readAt (Elt Ideal) (Rect.unit (s := S32x224) ![0, 0] S32x224.size inb_S32x224_S32x224_0_0).toLoadRect (h.unread x) = x := by
  rw [View.readAt_eq_ld, h.read_unread]
  exact View.ld_unit_zero (S := S32x224) hz _ x

/-- The two bias corrections. -/
theorem load_bc1 : arg1.view.readAt (Elt Ideal) (Rect.unit (s := S2) ![0] S1.size inb_S2_S1_0).toLoadRect (harg1.unread x0)
    (Shape.Idx.first (show 0 < S1.numel by rw [numel1_S1]; exact Nat.one_pos)) = x0 (ix1 0) := by
  rw [View.readAt_eq_ld, harg1.read_unread]
  exact congrArg x0 (funext fun a => by fin_cases a; rfl)

theorem load_bc2 : arg1.view.readAt (Elt Ideal) (Rect.unit (s := S2) ![1] S1.size inb_S2_S1_1).toLoadRect (harg1.unread x0)
    (Shape.Idx.first (show 0 < S1.numel by rw [numel1_S1]; exact Nat.one_pos)) = x0 (ix1 1) := by
  rw [View.readAt_eq_ld, harg1.read_unread]
  exact congrArg x0 (funext fun a => by fin_cases a; rfl)

theorem trips_eq : k0_t1_loop.trips = 224 := by decide +kernel

/-- Every group is done. -/
theorem final_done : Done x1 x2 x3 x4 x5 x6 x7 x8 (x0 (ix1 0)) (x0 (ix1 1)) 224
    (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (x0 (ix1 0)) (x0 (ix1 1)) lanes x4 x5 x7 x8
        (harg2.unread x1) (harg3.unread x2) (harg4.unread x3) (harg7.unread x6) (k0_pay5, k0_pay6, k0_pay7, k0_pay8) k0_t1_loop.trips) := by
  have h := done x1 x2 x3 x4 x5 x6 x7 x8 (x0 (ix1 0)) (x0 (ix1 1)) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
    (k0_pay5, k0_pay6, k0_pay7, k0_pay8) k0_t1_loop.trips le_rfl
  intro r j hj
  exact h r j (by rw [trips_eq]; exact hj)

theorem final_eq : final x0 x1 x2 x3 x4 x5 x6 x7 x8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
    = st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (x0 (ix1 0)) (x0 (ix1 1)) lanes x4 x5 x7 x8
        (harg2.unread x1) (harg3.unread x2) (harg4.unread x3) (harg7.unread x6) (k0_pay5, k0_pay6, k0_pay7, k0_pay8) k0_t1_loop.trips := by
  unfold final
  rw [load_bc1, load_bc2, load_whole, load_whole, load_whole, load_whole]

theorem out9 (r : Fin 32) (a : Fin 28672) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix2 r a) = (brow x0 x1 x2 x3 x4 x5 x6 x7 x8 r).u a := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8)]
  unfold kernelRun0_A
  dsimp only
  sl_unfold_words
  show View.canon (final x0 x1 x2 x3 x4 x5 x6 x7 x8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16).2.1 (ix2 r a) = _
  rw [final_eq, ← colAt_grp_lan a]
  exact ((final_done x0 x1 x2 x3 x4 x5 x6 x7 x8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 r (grp a) (grp a).isLt).2 (lan a)).1

theorem out10 (r : Fin 32) (a : Fin 28672) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix2 r a) = (brow x0 x1 x2 x3 x4 x5 x6 x7 x8 r).codeM a := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8)]
  unfold kernelRun0_A
  dsimp only
  sl_unfold_words
  show View.canon (final x0 x1 x2 x3 x4 x5 x6 x7 x8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16).2.2.1 (ix2 r a) = _
  rw [final_eq, ← colAt_grp_lan a]
  exact ((final_done x0 x1 x2 x3 x4 x5 x6 x7 x8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 r (grp a) (grp a).isLt).2 (lan a)).2.1

theorem out13 (r : Fin 32) (a : Fin 28672) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix2 r a) = (brow x0 x1 x2 x3 x4 x5 x6 x7 x8 r).codeV a := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8)]
  unfold kernelRun0_A
  dsimp only
  sl_unfold_words
  show View.canon (final x0 x1 x2 x3 x4 x5 x6 x7 x8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16).2.2.2 (ix2 r a) = _
  rw [final_eq, ← colAt_grp_lan a]
  exact ((final_done x0 x1 x2 x3 x4 x5 x6 x7 x8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 r (grp a) (grp a).isLt).2 (lan a)).2.2

theorem out11 (r : Fin 32) (j : Fin 224) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix2 r j) = (brow x0 x1 x2 x3 x4 x5 x6 x7 x8 r).scaleM j := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8)]
  unfold kernelRun0_A
  dsimp only
  sl_unfold_words
  refine (congrFun (View.canon_unit_zero (S := S32x224) hz _ _) _).trans ?_
  show (final x0 x1 x2 x3 x4 x5 x6 x7 x8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16).1.1 (ix2 r j) = _
  rw [final_eq]
  exact (final_done x0 x1 x2 x3 x4 x5 x6 x7 x8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 r j j.isLt).1.1

theorem out12 (r : Fin 32) (j : Fin 224) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix2 r j) = (brow x0 x1 x2 x3 x4 x5 x6 x7 x8 r).expoM j := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8)]
  unfold kernelRun0_A
  dsimp only
  sl_unfold_words
  refine (congrFun (View.canon_unit_zero (S := S32x224) hz _ _) _).trans ?_
  show (final x0 x1 x2 x3 x4 x5 x6 x7 x8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16).1.2.1 (ix2 r j) = _
  rw [final_eq]
  exact (final_done x0 x1 x2 x3 x4 x5 x6 x7 x8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 r j j.isLt).1.2.1

theorem out14 (r : Fin 32) (j : Fin 224) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix2 r j) = (brow x0 x1 x2 x3 x4 x5 x6 x7 x8 r).scaleV j := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8)]
  unfold kernelRun0_A
  dsimp only
  sl_unfold_words
  refine (congrFun (View.canon_unit_zero (S := S32x224) hz _ _) _).trans ?_
  show (final x0 x1 x2 x3 x4 x5 x6 x7 x8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16).1.2.2.1 (ix2 r j) = _
  rw [final_eq]
  exact (final_done x0 x1 x2 x3 x4 x5 x6 x7 x8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 r j j.isLt).1.2.2.1

theorem out15 (r : Fin 32) (j : Fin 224) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix2 r j) = (brow x0 x1 x2 x3 x4 x5 x6 x7 x8 r).expoV j := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8)]
  unfold kernelRun0_A
  dsimp only
  sl_unfold_words
  refine (congrFun (View.canon_unit_zero (S := S32x224) hz _ _) _).trans ?_
  show (final x0 x1 x2 x3 x4 x5 x6 x7 x8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16).1.2.2.2 (ix2 r j) = _
  rw [final_eq]
  exact (final_done x0 x1 x2 x3 x4 x5 x6 x7 x8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 r j j.isLt).1.2.2.2

end Cert.KernelIdeal.Block

end
-- ==== Proof.Flat.lean ====
/- The problem as a whole: the eight tensors laid flat as 1792 rows, the two bias corrections of the step count, and the
   seven results, row by row. -/
module

public import proofs.«01_k».proof.Proof.Rows
public import Idealize.ShloMosaic.Lib.Tactic
public import Idealize.ShloMosaic.Lib.Pointwise
public import Idealize.ShloMosaic.PureOps.Ideal.Laws

@[expose] public section

noncomputable section

namespace Cert.Adam

open Idealize.ShloMosaic Idealize.ShloMosaic.TcCoe

/-- The flat shapes: one entry per element, one per group. -/
abbrev Big : Shape := ⟨2, ![1792, 28672]⟩
abbrev Small : Shape := ⟨2, ![1792, 224]⟩

/-- A tensor's own shapes. -/
abbrev Big3 : Shape := ⟨3, ![2, 896, 28672]⟩
abbrev Small3 : Shape := ⟨3, ![2, 896, 224]⟩

theorem castsBig : Big3.ShapeCasts Big := by decide +kernel
theorem castsSmall : Small3.ShapeCasts Small := by decide +kernel

/-- One minus a decay rate to the power of the step count. -/
def bias (b : BitVec 32) (t : Vec Ideal ⟨0, ![]⟩ .i32) : EReal :=
  subf (constant (F := Ideal) ⟨0, ![]⟩ .f32 0x3F800000#32)
    (Host.powf (constant ⟨0, ![]⟩ .f32 b) (sitofp .f32 t)) (fun a => a.elim0)

/-- Row `R` of the flat tensors. -/
def flat (w : Vec Ideal Big .f32) (g : Vec Ideal Big .bf16) (qm : Vec Ideal Big .fp8e4m3) (sm km : Vec Ideal Small .f32)
    (qv : Vec Ideal Big .fp8e4m3) (sv kv : Vec Ideal Small .f32) (b1 b2 : EReal) (R : Fin 1792) : Row where
  w a := w (ix2 R a)
  g a := g (ix2 R a)
  qm a := qm (ix2 R a)
  sm j := sm (ix2 R j)
  km j := km (ix2 R j)
  qv a := qv (ix2 R a)
  sv j := sv (ix2 R j)
  kv j := kv (ix2 R j)
  bc1 := b1
  bc2 := b2

/-- Row `R` of the problem. -/
def rows (w : Vec Ideal Big3 .f32) (g : Vec Ideal Big3 .bf16) (qm : Vec Ideal Big3 .fp8e4m3) (sm km : Vec Ideal Small3 .f32)
    (qv : Vec Ideal Big3 .fp8e4m3) (sv kv : Vec Ideal Small3 .f32) (t : Vec Ideal ⟨0, ![]⟩ .i32) : Fin 1792 → Row :=
  flat (shapeCast Big w castsBig) (shapeCast Big g castsBig) (shapeCast Big qm castsBig)
    (shapeCast Small sm castsSmall) (shapeCast Small km castsSmall) (shapeCast Big qv castsBig)
    (shapeCast Small sv castsSmall) (shapeCast Small kv castsSmall) (bias 0x3F666666#32 t) (bias 0x3F733333#32 t)

section Results

variable (x : Fin 1792 → Row)

/-- The seven results. -/
def updates : Vec Ideal Big .f32 := fun i => (x (i 0)).u (i 1)
def codesM : Vec Ideal Big .fp8e4m3 := fun i => (x (i 0)).codeM (i 1)
def scalesM : Vec Ideal Small .f32 := fun i => (x (i 0)).scaleM (i 1)
def exposM : Vec Ideal Small .f32 := fun i => (x (i 0)).expoM (i 1)
def codesV : Vec Ideal Big .fp8e4m3 := fun i => (x (i 0)).codeV (i 1)
def scalesV : Vec Ideal Small .f32 := fun i => (x (i 0)).scaleV (i 1)
def exposV : Vec Ideal Small .f32 := fun i => (x (i 0)).expoV (i 1)

end Results

end Cert.Adam

end
-- ==== Proof.KernelArrays.lean ====
/- What the kernel's pipeline leaves in the seven arrays: block by block, the results of the problem's rows. -/
module

public import proofs.«01_k».proof.Proof.KernelBlock
public import proofs.«01_k».proof.Proof.Flat
public import Idealize.ShloMosaic.Lib.Claim
public import Idealize.ShloMosaic.Lib.Tactic
public import Idealize.ShloMosaic.Lib.Pipeline.ValueKit

@[expose] public section

set_option maxRecDepth 16384

noncomputable section

namespace Cert.KernelIdeal.Arrays

open Idealize.ShloMosaic Idealize.ShloMosaic.TcCoe Idealize.ShloMosaic.Tactic
open Cert.KernelIdeal Cert.KernelIdeal.Gen Cert.KernelIdeal.Lanes Cert.KernelIdeal.Loop Cert.KernelIdeal.Block Cert.Adam

variable (m : (ℓ : Loc nD τ sig) → Buf (Elt Ideal) ℓ) (c : Dev nD)

/-- The rows of the problem in a memory's arguments. -/
def prob : Fin 1792 → Row :=
  rows (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) (m (c, Proc.tc.devRef main_arg7)) (m (c, Proc.tc.devRef main_arg8))

/-- The row of the arrays that is row `r` of point `t`'s block. -/
def at' (t : Fin cfg0.N) (r : Fin 32) : Fin 1792 := ⟨t.val * 32 + r.val, by have := t.isLt; have : cfg0.N = 56 := rfl; omega⟩

theorem idx1 : ∀ t, win0_1.index t = ![t.val, 0] := by decide +kernel
theorem idx2 : ∀ t, win0_2.index t = ![t.val, 0] := by decide +kernel
theorem idx3 : ∀ t, win0_3.index t = ![t.val, 0] := by decide +kernel
theorem idx4 : ∀ t, win0_4.index t = ![t.val, 0] := by decide +kernel
theorem idx5 : ∀ t, win0_5.index t = ![t.val, 0] := by decide +kernel
theorem idx6 : ∀ t, win0_6.index t = ![t.val, 0] := by decide +kernel
theorem idx7 : ∀ t, win0_7.index t = ![t.val, 0] := by decide +kernel
theorem idx8 : ∀ t, win0_8.index t = ![t.val, 0] := by decide +kernel
theorem idx9 : ∀ t, win0_9.index t = ![t.val, 0] := by decide +kernel
theorem idx10 : ∀ t, win0_10.index t = ![t.val, 0] := by decide +kernel
theorem idx11 : ∀ t, win0_11.index t = ![t.val, 0] := by decide +kernel
theorem idx12 : ∀ t, win0_12.index t = ![t.val, 0] := by decide +kernel
theorem idx13 : ∀ t, win0_13.index t = ![t.val, 0] := by decide +kernel
theorem idx14 : ∀ t, win0_14.index t = ![t.val, 0] := by decide +kernel
theorem idx15 : ∀ t, win0_15.index t = ![t.val, 0] := by decide +kernel
theorem idx0 : ∀ t, win0_0.index t = ![0] := by decide +kernel

/-- An index of two axes is its coordinates'. -/
theorem eta2 {n k : ℕ} (y : (⟨2, ![n, k]⟩ : Shape).Idx) : y = ix2 (y 0) (y 1) := by
  funext d; match d with | 0 => rfl | 1 => rfl

/-! Each input block's elements. -/

theorem in1 (t : Fin cfg0.N) (r : Fin 32) (a : Fin 28672) :
    iblk m c 1 t (ix2 r a) = shapeCast Big (m (c, Proc.tc.devRef main_arg0)) castsBig (ix2 (at' t r) a) := by
  unfold iblk
  entry_read
  blk_ext [idx1 t, at']

theorem in2 (t : Fin cfg0.N) (r : Fin 32) (a : Fin 28672) :
    iblk m c 2 t (ix2 r a) = shapeCast Big (m (c, Proc.tc.devRef main_arg1)) castsBig (ix2 (at' t r) a) := by
  unfold iblk
  entry_read
  blk_ext [idx2 t, at']

theorem in3 (t : Fin cfg0.N) (r : Fin 32) (a : Fin 28672) :
    iblk m c 3 t (ix2 r a) = shapeCast Big (m (c, Proc.tc.devRef main_arg2)) castsBig (ix2 (at' t r) a) := by
  unfold iblk
  entry_read
  blk_ext [idx3 t, at']

theorem in4 (t : Fin cfg0.N) (r : Fin 32) (a : Fin 224) :
    iblk m c 4 t (ix2 r a) = shapeCast Small (m (c, Proc.tc.devRef main_arg3)) castsSmall (ix2 (at' t r) a) := by
  unfold iblk
  entry_read
  blk_ext [idx4 t, at']

theorem in5 (t : Fin cfg0.N) (r : Fin 32) (a : Fin 224) :
    iblk m c 5 t (ix2 r a) = shapeCast Small (m (c, Proc.tc.devRef main_arg4)) castsSmall (ix2 (at' t r) a) := by
  unfold iblk
  entry_read
  blk_ext [idx5 t, at']

theorem in6 (t : Fin cfg0.N) (r : Fin 32) (a : Fin 28672) :
    iblk m c 6 t (ix2 r a) = shapeCast Big (m (c, Proc.tc.devRef main_arg5)) castsBig (ix2 (at' t r) a) := by
  unfold iblk
  entry_read
  blk_ext [idx6 t, at']

theorem in7 (t : Fin cfg0.N) (r : Fin 32) (a : Fin 224) :
    iblk m c 7 t (ix2 r a) = shapeCast Small (m (c, Proc.tc.devRef main_arg6)) castsSmall (ix2 (at' t r) a) := by
  unfold iblk
  entry_read
  blk_ext [idx7 t, at']

theorem in8 (t : Fin cfg0.N) (r : Fin 32) (a : Fin 224) :
    iblk m c 8 t (ix2 r a) = shapeCast Small (m (c, Proc.tc.devRef main_arg7)) castsSmall (ix2 (at' t r) a) := by
  unfold iblk
  entry_read
  blk_ext [idx8 t, at']

theorem in0 (t : Fin cfg0.N) : iblk m c 0 t (ix1 0) = bias 0x3F666666#32 (m (c, Proc.tc.devRef main_arg8)) := by
  unfold iblk
  entry_read
  have e : (win0_0.blk t).view.emb (ix1 0) = ix1 0 := by blk_point [idx0 t]
  blk_simp [idx0 t]
  rw [e]
  unfold bias
  pointwise
  rfl

theorem in0' (t : Fin cfg0.N) : iblk m c 0 t (ix1 1) = bias 0x3F733333#32 (m (c, Proc.tc.devRef main_arg8)) := by
  unfold iblk
  entry_read
  have e : (win0_0.blk t).view.emb (ix1 1) = ix1 1 := by blk_point [idx0 t]
  blk_simp [idx0 t]
  rw [e]
  unfold bias
  pointwise
  rfl

/-- Row `r` of point `t`'s input blocks is a row of the problem. -/
theorem brow_eq (t : Fin cfg0.N) (r : Fin 32) :
    brow (iblk m c 0 t) (iblk m c 1 t) (iblk m c 2 t) (iblk m c 3 t) (iblk m c 4 t) (iblk m c 5 t) (iblk m c 6 t) (iblk m c 7 t)
      (iblk m c 8 t) r = prob m c (at' t r) := by
  have a1 := funext (in1 m c t r); have a2 := funext (in2 m c t r); have a3 := funext (in3 m c t r)
  have a4 := funext (in4 m c t r); have a5 := funext (in5 m c t r); have a6 := funext (in6 m c t r)
  have a7 := funext (in7 m c t r); have a8 := funext (in8 m c t r); have a9 := in0 m c t; have a10 := in0' m c t
  unfold prob rows
  generalize iblk m c 0 t = x0 at *; generalize iblk m c 1 t = x1 at *; generalize iblk m c 2 t = x2 at *
  generalize iblk m c 3 t = x3 at *; generalize iblk m c 4 t = x4 at *; generalize iblk m c 5 t = x5 at *
  generalize iblk m c 6 t = x6 at *; generalize iblk m c 7 t = x7 at *; generalize iblk m c 8 t = x8 at *
  exact row_ext a1 a2 a3 a4 a5 a6 a7 a8 a9 a10

set_option maxHeartbeats 1600000 in
theorem arr9 : (dats m 0 c).arrAt 9 cfg0.N = updates (prob m c) := by
  have key (t : Fin cfg0.N) (y : S32x28672.Idx) : out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) y
      = updates (prob m c) ((win0_9.blk t).view.emb y) := by
    obtain ⟨r, a, rfl⟩ : ∃ r a, y = ix2 r a := ⟨y 0, y 1, eta2 y⟩
    have e : (win0_9.blk t).view.emb (ix2 r a) = ix2 (at' t r) a := by
      blk_point [idx9 t, at']
    refine (Block.out9 (iblk m c 0 t) (iblk m c 1 t) (iblk m c 2 t) (iblk m c 3 t) (iblk m c 4 t) (iblk m c 5 t) (iblk m c 6 t) (iblk m c 7 t) (iblk m c 8 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) r a).trans ?_
    rw [brow_eq, e]
    rfl
  refine (dats m 0 c).arrAt_eq_of_covers 9 _ (by decide +kernel) fun t hf y => ?_
  blk_simp
  rw [after0_9]
  unfold outsAt0
  exact key t y

set_option maxHeartbeats 1600000 in
theorem arr10 : (dats m 0 c).arrAt 10 cfg0.N = codesM (prob m c) := by
  have key (t : Fin cfg0.N) (y : S32x28672.Idx) : out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) y
      = codesM (prob m c) ((win0_10.blk t).view.emb y) := by
    obtain ⟨r, a, rfl⟩ : ∃ r a, y = ix2 r a := ⟨y 0, y 1, eta2 y⟩
    have e : (win0_10.blk t).view.emb (ix2 r a) = ix2 (at' t r) a := by
      blk_point [idx10 t, at']
    refine (Block.out10 (iblk m c 0 t) (iblk m c 1 t) (iblk m c 2 t) (iblk m c 3 t) (iblk m c 4 t) (iblk m c 5 t) (iblk m c 6 t) (iblk m c 7 t) (iblk m c 8 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) r a).trans ?_
    rw [brow_eq, e]
    rfl
  refine (dats m 0 c).arrAt_eq_of_covers 10 _ (by decide +kernel) fun t hf y => ?_
  blk_simp
  rw [after0_10]
  unfold outsAt0
  exact key t y

set_option maxHeartbeats 1600000 in
theorem arr11 : (dats m 0 c).arrAt 11 cfg0.N = scalesM (prob m c) := by
  have key (t : Fin cfg0.N) (y : S32x224.Idx) : out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) y
      = scalesM (prob m c) ((win0_11.blk t).view.emb y) := by
    obtain ⟨r, a, rfl⟩ : ∃ r a, y = ix2 r a := ⟨y 0, y 1, eta2 y⟩
    have e : (win0_11.blk t).view.emb (ix2 r a) = ix2 (at' t r) a := by
      blk_point [idx11 t, at']
    refine (Block.out11 (iblk m c 0 t) (iblk m c 1 t) (iblk m c 2 t) (iblk m c 3 t) (iblk m c 4 t) (iblk m c 5 t) (iblk m c 6 t) (iblk m c 7 t) (iblk m c 8 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) r a).trans ?_
    rw [brow_eq, e]
    rfl
  refine (dats m 0 c).arrAt_eq_of_covers 11 _ (by decide +kernel) fun t hf y => ?_
  blk_simp
  rw [after0_11]
  unfold outsAt0
  exact key t y

set_option maxHeartbeats 1600000 in
theorem arr12 : (dats m 0 c).arrAt 12 cfg0.N = exposM (prob m c) := by
  have key (t : Fin cfg0.N) (y : S32x224.Idx) : out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) y
      = exposM (prob m c) ((win0_12.blk t).view.emb y) := by
    obtain ⟨r, a, rfl⟩ : ∃ r a, y = ix2 r a := ⟨y 0, y 1, eta2 y⟩
    have e : (win0_12.blk t).view.emb (ix2 r a) = ix2 (at' t r) a := by
      blk_point [idx12 t, at']
    refine (Block.out12 (iblk m c 0 t) (iblk m c 1 t) (iblk m c 2 t) (iblk m c 3 t) (iblk m c 4 t) (iblk m c 5 t) (iblk m c 6 t) (iblk m c 7 t) (iblk m c 8 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) r a).trans ?_
    rw [brow_eq, e]
    rfl
  refine (dats m 0 c).arrAt_eq_of_covers 12 _ (by decide +kernel) fun t hf y => ?_
  blk_simp
  rw [after0_12]
  unfold outsAt0
  exact key t y

set_option maxHeartbeats 1600000 in
theorem arr13 : (dats m 0 c).arrAt 13 cfg0.N = codesV (prob m c) := by
  have key (t : Fin cfg0.N) (y : S32x28672.Idx) : out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) y
      = codesV (prob m c) ((win0_13.blk t).view.emb y) := by
    obtain ⟨r, a, rfl⟩ : ∃ r a, y = ix2 r a := ⟨y 0, y 1, eta2 y⟩
    have e : (win0_13.blk t).view.emb (ix2 r a) = ix2 (at' t r) a := by
      blk_point [idx13 t, at']
    refine (Block.out13 (iblk m c 0 t) (iblk m c 1 t) (iblk m c 2 t) (iblk m c 3 t) (iblk m c 4 t) (iblk m c 5 t) (iblk m c 6 t) (iblk m c 7 t) (iblk m c 8 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) r a).trans ?_
    rw [brow_eq, e]
    rfl
  refine (dats m 0 c).arrAt_eq_of_covers 13 _ (by decide +kernel) fun t hf y => ?_
  blk_simp
  rw [after0_13]
  unfold outsAt0
  exact key t y

set_option maxHeartbeats 1600000 in
theorem arr14 : (dats m 0 c).arrAt 14 cfg0.N = scalesV (prob m c) := by
  have key (t : Fin cfg0.N) (y : S32x224.Idx) : out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) y
      = scalesV (prob m c) ((win0_14.blk t).view.emb y) := by
    obtain ⟨r, a, rfl⟩ : ∃ r a, y = ix2 r a := ⟨y 0, y 1, eta2 y⟩
    have e : (win0_14.blk t).view.emb (ix2 r a) = ix2 (at' t r) a := by
      blk_point [idx14 t, at']
    refine (Block.out14 (iblk m c 0 t) (iblk m c 1 t) (iblk m c 2 t) (iblk m c 3 t) (iblk m c 4 t) (iblk m c 5 t) (iblk m c 6 t) (iblk m c 7 t) (iblk m c 8 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) r a).trans ?_
    rw [brow_eq, e]
    rfl
  refine (dats m 0 c).arrAt_eq_of_covers 14 _ (by decide +kernel) fun t hf y => ?_
  blk_simp
  rw [after0_14]
  unfold outsAt0
  exact key t y

set_option maxHeartbeats 1600000 in
theorem arr15 : (dats m 0 c).arrAt 15 cfg0.N = exposV (prob m c) := by
  have key (t : Fin cfg0.N) (y : S32x224.Idx) : out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) y
      = exposV (prob m c) ((win0_15.blk t).view.emb y) := by
    obtain ⟨r, a, rfl⟩ : ∃ r a, y = ix2 r a := ⟨y 0, y 1, eta2 y⟩
    have e : (win0_15.blk t).view.emb (ix2 r a) = ix2 (at' t r) a := by
      blk_point [idx15 t, at']
    refine (Block.out15 (iblk m c 0 t) (iblk m c 1 t) (iblk m c 2 t) (iblk m c 3 t) (iblk m c 4 t) (iblk m c 5 t) (iblk m c 6 t) (iblk m c 7 t) (iblk m c 8 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) r a).trans ?_
    rw [brow_eq, e]
    rfl
  refine (dats m 0 c).arrAt_eq_of_covers 15 _ (by decide +kernel) fun t hf y => ?_
  blk_simp
  rw [after0_15]
  unfold outsAt0
  exact key t y

end Cert.KernelIdeal.Arrays

end
-- ==== Proof.ReferenceLanes.lean ====
/- The reference's values at one element, over the extended reals: each payload of its one body, read at row `r` and column
   `a` (or group `j`), is the scalar function of Proof/Scalars.lean, stated as the kernel computes it. Payloads that read
   others are read over arbitrary arrays first, so that a value is never computed twice. -/
module

public import proofs.«01_k».proof.Proof.Gen.ReferenceIdeal.Value
public import proofs.«01_k».proof.Proof.Consts
public import proofs.«01_k».proof.Proof.Rows
public import Idealize.ShloMosaic.Lib.Pointwise
public import Idealize.ShloMosaic.PureOps.Ideal.Laws

@[expose] public section

set_option maxRecDepth 16384

noncomputable section

namespace Cert.ReferenceIdeal.Lanes

open Idealize.ShloMosaic Idealize.ShloMosaic.TcCoe
open Cert.ReferenceIdeal Cert.ReferenceIdeal.Gen Cert.Adam

/-! ## The moments and the update -/

/-- The `j`th group of row `r`. -/
def gr (x : FVec Ideal S1792x28672 .f32) (r : Fin 1792) (j : Fin 224) : Fin 128 → EReal := fun l => x (ix2 r (colAt j l))

/-- The first moment's dequantised code. -/
theorem deq_m (q : Vec Ideal S1792x28672 .fp8e4m3) (s k : Vec Ideal S1792x224 .f32) (r : Fin 1792) (a : Fin 28672) :
    k0_pay2 q s k (ix2 r a) = kdeq (q (ix2 r a)) (s (ix2 r (grp a))) (k (ix2 r (grp a))) := by
  rw [kdeq_eq_rdeq]
  unfold_payloads
  pointwise
  rw [Consts.ofBits_neg_one, Consts.ofBits_448]
  rfl

/-- The decayed first moment. -/
theorem mom_m (d : FVec Ideal S1792x28672 .f32) (g : Vec Ideal S1792x28672 .bf16) (r : Fin 1792) (a : Fin 28672) :
    k0_pay7 d g (ix2 r a) = Ideal.ofBits .f32 0x3F666666#32 * d (ix2 r a) + Ideal.ofBits .f32 0x3DCCCCCD#32 * g (ix2 r a) := by
  unfold_payloads
  pointwise

/-- The decayed second moment, its dequantised code inside. -/
theorem mom_v (q : Vec Ideal S1792x28672 .fp8e4m3) (s k : Vec Ideal S1792x224 .f32) (g : Vec Ideal S1792x28672 .bf16) (r : Fin 1792) (a : Fin 28672) :
    k0_pay8 (k0_pay3 s) (k0_pay4 k) (k0_pay5 q) g (ix2 r a)
      = Ideal.ofBits .f32 0x3F733333#32 * kdeq (q (ix2 r a)) (s (ix2 r (grp a))) (k (ix2 r (grp a)))
        + Ideal.ofBits .f32 0x3D4CCCCD#32 * g (ix2 r a) * g (ix2 r a) := by
  rw [kdeq_eq_rdeq]
  unfold_payloads
  pointwise
  rw [Consts.ofBits_neg_one, Consts.ofBits_448]
  rfl

/-- The update, from the two decayed moments. -/
theorem update (x y w : FVec Ideal S1792x28672 .f32) (b1 b2 : Elt Ideal .f32) (r : Fin 1792) (a : Fin 28672) :
    k0_pay9 x y b1 b2 w (ix2 r a)
      = upd b1 b2 (w (ix2 r a)) (x (ix2 r a)) (y (ix2 r a)) (Ideal.ofBits .f32 0x322BCC77#32) (Ideal.ofBits .f32 0x3DCCCCCD#32) := by
  unfold k0_pay9
  pointwise
  rfl

/-! ## The new scales, exponents and codes -/

/-- A flat array read by groups. -/
theorem group (x : FVec Ideal S1792x28672 .f32) (r : Fin 1792) (j : Fin 224) (l : Fin 128) :
    k0_pay10 x (ix3 r j l) = gr x r j l := by
  unfold_payloads
  pointwise
  exact congrArg x (congrArg (ix2 r) (Fin.ext (congrArg (· + l.val) (Nat.mul_comm _ _))))

/-- The magnitudes by groups. -/
theorem mag_m (x : FVec Ideal S1792x28672 .f32) (r : Fin 1792) (j : Fin 224) (l : Fin 128) :
    k0_pay11 x (ix3 r j l) = mag (gr x r j l) := by
  have h := group x r j l
  unfold k0_pay11
  generalize k0_pay10 x = y at *
  generalize gr x r j l = z at *
  pointwise
  rw [h]
  rfl

/-- The greatest magnitude of a group. -/
theorem amax_m (x : FVec Ideal S1792x28672 .f32) (r : Fin 1792) (j : Fin 224) :
    k0_pay12 x (ix2 r j) = amax (gr x r j) := by
  have h := mag_m x r j
  revert h
  unfold k0_pay12 amax
  generalize k0_pay11 x = y
  generalize gr x r j = f
  intro h
  pointwise
  rw [Consts.ofBits_bot]
  simp only [h]

/-- An array where it is positive, one elsewhere. -/
theorem scale_aux (y : FVec Ideal S1792x224 .f32) (r : Fin 1792) (j : Fin 224) :
    select (cmpf .ogt y (broadcast S1792x224 (Scalar.ofBits (F := Ideal) .f32 0x00000000#32))) y
      (broadcast S1792x224 (Scalar.ofBits .f32 0x3F800000#32)) (ix2 r j)
      = if 0 < y (ix2 r j) then y (ix2 r j) else ((1 : ℝ) : EReal) := by
  pointwise
  rfl

/-- The scale of a group. -/
theorem scale_m (x : FVec Ideal S1792x28672 .f32) (r : Fin 1792) (j : Fin 224) :
    k0_pay14 x (ix2 r j) = scale (gr x r j) := by
  unfold scale
  rw [← amax_m]
  exact scale_aux (k0_pay12 x) r j

/-- The exponent's operations over arbitrary greatest magnitudes `y`, scales `z` and magnitudes `w`. -/
theorem expo_aux (z y : FVec Ideal S1792x224 .f32) (w : FVec Ideal S1792x224x128 .f32) (f : Fin 128 → EReal) (r : Fin 1792) (j : Fin 224)
    (h1 : ∀ l, w (ix3 r j l) = mag (f l)) :
    select (cmpf .ogt y (broadcast S1792x224 (Scalar.ofBits (F := Ideal) .f32 0x00000000#32)))
      (divf (broadcast S1792x224 (Named.named κ "log_range" 0x41457D69#32))
        (maximumf (subf (log z) (log (select (cmpf .ogt y (broadcast S1792x224 (Scalar.ofBits (F := Ideal) .f32 0x00000000#32)))
            (multiReduction .minimumf [2] S1792x224 (select (cmpf .ogt w (broadcast S1792x224x128 (Scalar.ofBits (F := Ideal) .f32 0x00000000#32)))
                w (broadcast S1792x224x128 (Scalar.ofBits .f32 0x7F800000#32))) 0x7F800000#32 reduces_S1792x224x128_S1792x224 (.inl rfl) rfl)
            (broadcast S1792x224 (Scalar.ofBits .f32 0x3F800000#32)))))
          (broadcast S1792x224 (Scalar.divf (Named.named κ "log_range" 0x41457D69#32) (Scalar.ofBits .f32 0x41000000#32)))))
      (broadcast S1792x224 (Scalar.ofBits .f32 0x3F800000#32)) (ix2 r j)
    = if 0 < y (ix2 r j) then
        Ideal.div ((Real.log 229376 : ℝ) : EReal)
          (max (Ideal.log (z (ix2 r j))
              - Ideal.log (if 0 < y (ix2 r j) then Finset.univ.fold min ⊤ (fun l => if 0 < mag (f l) then mag (f l) else ⊤) else ((1 : ℝ) : EReal)))
            (Ideal.div ((Real.log 229376 : ℝ) : EReal) ((8 : ℝ) : EReal)))
      else ((1 : ℝ) : EReal) := by
  pointwise
  simp only [h1]
  rw [Consts.ofBits_top, Consts.log_range, Consts.ofBits_8]
  rfl

/-- The exponent of a group. -/
theorem expo_m (x : FVec Ideal S1792x28672 .f32) (r : Fin 1792) (j : Fin 224) :
    k0_pay15 x (ix2 r j) = kexpo (gr x r j) := by
  rw [kexpo_eq_rexpo]
  unfold rexpo least bmin
  rw [← amax_m, ← scale_m]
  exact expo_aux (k0_pay14 x) (k0_pay12 x) (k0_pay11 x) (gr x r j) r j (mag_m x r j)

/-- The code's operations over arbitrary grouped values `X`, magnitudes `Y`, scales `Z` and exponents `K`. -/
theorem code_aux (X Y : FVec Ideal S1792x224x128 .f32) (Z K : FVec Ideal S1792x224 .f32) (r : Fin 1792) (a : Fin 28672)
    (hY : Y (ix3 r (grp a) (lan a)) = mag (X (ix3 r (grp a) (lan a)))) :
    k0_pay17 X Y Z K (cmpf .ogt Y (broadcast S1792x224x128 (Scalar.ofBits (F := Ideal) .f32 0x00000000#32))) (Scalar.ofBits .f32 0x3F800000#32) (ix2 r a)
      = sgn (X (ix3 r (grp a) (lan a))) * min ((448 : ℝ) : EReal) (max ((0 : ℝ) : EReal)
          (if 0 < mag (X (ix3 r (grp a) (lan a))) then ((448 : ℝ) : EReal) * Ideal.exp (K (ix2 r (grp a))
            * Ideal.log (Ideal.div (if 0 < mag (X (ix3 r (grp a) (lan a))) then mag (X (ix3 r (grp a) (lan a))) else ((1 : ℝ) : EReal)) (Z (ix2 r (grp a)))))
          else ((0 : ℝ) : EReal))) := by
  rw [← hY]
  unfold_payloads
  pointwise
  rw [Consts.ofBits_448, Consts.ofBits_neg_one]
  rfl

/-- The new code of an element. -/
theorem code_m (x : FVec Ideal S1792x28672 .f32) (r : Fin 1792) (a : Fin 28672) :
    k0_pay17 (k0_pay10 x) (k0_pay11 x) (k0_pay14 x) (k0_pay15 x) (k0_pay16 x) (Scalar.ofBits .f32 0x3F800000#32) (ix2 r a)
      = kcode (gr x r (grp a)) (lan a) := by
  refine (code_aux (k0_pay10 x) (k0_pay11 x) (k0_pay14 x) (k0_pay15 x) r a
    ((mag_m x r (grp a) (lan a)).trans (congrArg mag (group x r (grp a) (lan a)).symm))).trans ?_
  rw [group, scale_m, expo_m, kcode_eq_rcode, kexpo_eq_rexpo]
  rfl

/-! ## The second moment's: the same operations -/

theorem scale_v (x : FVec Ideal S1792x28672 .f32) (r : Fin 1792) (j : Fin 224) :
    k0_pay23 (k0_pay20 x) (Scalar.ofBits .f32 0x00000000#32) (ix2 r j) = scale (gr x r j) := by
  have e : k0_pay23 (k0_pay20 x) (Scalar.ofBits .f32 0x00000000#32) = k0_pay14 x := rfl
  rw [e, scale_m]

theorem expo_v (x : FVec Ideal S1792x28672 .f32) (r : Fin 1792) (j : Fin 224) :
    k0_pay24 (k0_pay20 x) (k0_pay21 x) (Scalar.ofBits .f32 0x00000000#32) (ix2 r j) = kexpo (gr x r j) := by
  have e : k0_pay24 (k0_pay20 x) (k0_pay21 x) (Scalar.ofBits .f32 0x00000000#32) = k0_pay15 x := rfl
  rw [e, expo_m]

theorem code_v (x : FVec Ideal S1792x28672 .f32) (r : Fin 1792) (a : Fin 28672) :
    k0_pay1 (k0_pay25 (k0_pay18 x) (k0_pay19 x) (k0_pay20 x) (k0_pay21 x) (Scalar.ofBits .f32 0x00000000#32)) (ix2 r a)
      = kcode (gr x r (grp a)) (lan a) := by
  have e : k0_pay1 (k0_pay25 (k0_pay18 x) (k0_pay19 x) (k0_pay20 x) (k0_pay21 x) (Scalar.ofBits .f32 0x00000000#32))
    = k0_pay17 (k0_pay10 x) (k0_pay11 x) (k0_pay14 x) (k0_pay15 x) (k0_pay16 x) (Scalar.ofBits .f32 0x3F800000#32) := rfl
  rw [e, code_m]

end Cert.ReferenceIdeal.Lanes

end
-- ==== Proof.ReferenceBlock.lean ====
/- What the reference's one body leaves in its seven outputs, over arbitrary inputs: the results of the inputs' rows. -/
module

public import proofs.«01_k».proof.Proof.ReferenceLanes
public import proofs.«01_k».proof.Proof.Flat
public import Idealize.ShloMosaic.Lib.Claim
public import Idealize.ShloMosaic.Lib.Tactic
public import Idealize.ShloMosaic.Lib.Pipeline.ValueKit

@[expose] public section

set_option maxRecDepth 16384

noncomputable section

namespace Cert.ReferenceIdeal.Block

open Idealize.ShloMosaic Idealize.ShloMosaic.TcCoe
open Cert.ReferenceIdeal Cert.ReferenceIdeal.Gen Cert.ReferenceIdeal.Lanes Cert.Adam

theorem hz : (![0, 0] : Fin 2 → Nat) = fun _ => 0 := funext fun a => by fin_cases a <;> rfl

/-- A load of a whole buffer reads it all. -/
theorem load_big {sp : Space} {e : EltTy} (a : Memref sig .tc sp S1792x28672 e) (h : a.IsWhole) (x : Vec Ideal S1792x28672 e) :
    a.view.readAt (Elt Ideal) (Rect.unit (s := S1792x28672) ![0, 0] S1792x28672.size inb_S1792x28672_S1792x28672_0_0).toLoadRect (h.unread x) = x := by
  rw [View.readAt_eq_ld, h.read_unread]
  exact View.ld_unit_zero (S := S1792x28672) hz _ x

theorem load_small {sp : Space} {e : EltTy} (a : Memref sig .tc sp S1792x224 e) (h : a.IsWhole) (x : Vec Ideal S1792x224 e) :
    a.view.readAt (Elt Ideal) (Rect.unit (s := S1792x224) ![0, 0] S1792x224.size inb_S1792x224_S1792x224_0_0).toLoadRect (h.unread x) = x := by
  rw [View.readAt_eq_ld, h.read_unread]
  exact View.ld_unit_zero (S := S1792x224) hz _ x

/-- A load of the one entry of a one-entry buffer. -/
theorem load_one {sp : Space} (a : Memref sig .tc sp S1x1 .f32) (h : a.IsWhole) (x : Vec Ideal S1x1 .f32) :
    a.view.readAt (Elt Ideal) (Rect.unit (s := S1x1) ![0, 0] S1x1.size inb_S1x1_S1x1_0_0).toLoadRect (h.unread x)
      (Shape.Idx.first (show 0 < S1x1.numel by rw [numel1_S1x1]; exact Nat.one_pos)) = x (ix2 0 0) := by
  rw [View.readAt_eq_ld, h.read_unread]
  exact congrArg x (funext fun a => by fin_cases a <;> rfl)

section Values

variable (x0 x1 : Vec Ideal S1x1 .f32) (x2 : Vec Ideal S1792x28672 .f32) (x3 : Vec Ideal S1792x28672 .bf16) (x4 : Vec Ideal S1792x28672 .fp8e4m3) (x5 x6 : Vec Ideal S1792x224 .f32) (x7 : Vec Ideal S1792x28672 .fp8e4m3) (x8 x9 : Vec Ideal S1792x224 .f32)

/-- The decayed moments of all rows. -/
def mom1 : FVec Ideal S1792x28672 .f32 := k0_pay7 (k0_pay2 x4 x5 x6) x3
def mom2 : FVec Ideal S1792x28672 .f32 := k0_pay8 (k0_pay3 x8) (k0_pay4 x9) (k0_pay5 x7) x3

/-- Row `r` of the inputs. -/
abbrev frow (r : Fin 1792) : Row := flat x2 x3 x4 x5 x6 x7 x8 x9 (x0 (ix2 0 0)) (x1 (ix2 0 0)) r

theorem mom1_eq (r : Fin 1792) (a : Fin 28672) : mom1 x3 x4 x5 x6 (ix2 r a) = (frow x0 x1 x2 x3 x4 x5 x6 x7 x8 x9 r).m a := by
  unfold mom1
  rw [mom_m, deq_m]
  rfl

theorem mom2_eq (r : Fin 1792) (a : Fin 28672) : mom2 x3 x7 x8 x9 (ix2 r a) = (frow x0 x1 x2 x3 x4 x5 x6 x7 x8 x9 r).v a :=
  mom_v x7 x8 x9 x3 r a

theorem gr1_eq (r : Fin 1792) (j : Fin 224) : gr (mom1 x3 x4 x5 x6) r j = (frow x0 x1 x2 x3 x4 x5 x6 x7 x8 x9 r).mg j :=
  funext fun l => mom1_eq x0 x1 x2 x3 x4 x5 x6 x7 x8 x9 r (colAt j l)

theorem gr2_eq (r : Fin 1792) (j : Fin 224) : gr (mom2 x3 x7 x8 x9) r j = (frow x0 x1 x2 x3 x4 x5 x6 x7 x8 x9 r).vg j :=
  funext fun l => mom2_eq x0 x1 x2 x3 x4 x5 x6 x7 x8 x9 r (colAt j l)

variable (c : Dev nD)
  (arg0 : Memref sig .tc .smem S1x1 .f32) (harg0 : arg0.IsWhole)
  (arg1 : Memref sig .tc .smem S1x1 .f32) (harg1 : arg1.IsWhole)
  (arg2 : Memref sig .tc .vmem S1792x28672 .f32) (harg2 : arg2.IsWhole)
  (arg3 : Memref sig .tc .vmem S1792x28672 .bf16) (harg3 : arg3.IsWhole)
  (arg4 : Memref sig .tc .vmem S1792x28672 .fp8e4m3) (harg4 : arg4.IsWhole)
  (arg5 : Memref sig .tc .vmem S1792x224 .f32) (harg5 : arg5.IsWhole)
  (arg6 : Memref sig .tc .vmem S1792x224 .f32) (harg6 : arg6.IsWhole)
  (arg7 : Memref sig .tc .vmem S1792x28672 .fp8e4m3) (harg7 : arg7.IsWhole)
  (arg8 : Memref sig .tc .vmem S1792x224 .f32) (harg8 : arg8.IsWhole)
  (arg9 : Memref sig .tc .vmem S1792x224 .f32) (harg9 : arg9.IsWhole)
  (arg10 : Memref sig .tc .vmem S1792x28672 .f32) (harg10 : arg10.IsWhole)
  (arg11 : Memref sig .tc .vmem S1792x28672 .fp8e4m3) (harg11 : arg11.IsWhole)
  (arg12 : Memref sig .tc .vmem S1792x224 .f32) (harg12 : arg12.IsWhole)
  (arg13 : Memref sig .tc .vmem S1792x224 .f32) (harg13 : arg13.IsWhole)
  (arg14 : Memref sig .tc .vmem S1792x28672 .fp8e4m3) (harg14 : arg14.IsWhole)
  (arg15 : Memref sig .tc .vmem S1792x224 .f32) (harg15 : arg15.IsWhole)
  (arg16 : Memref sig .tc .vmem S1792x224 .f32) (harg16 : arg16.IsWhole)

theorem pay10 : out0_A_10 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = k0_pay9 (mom1 x3 x4 x5 x6) (mom2 x3 x7 x8 x9) (x0 (ix2 0 0)) (x1 (ix2 0 0)) x2 := by
  unfold out0_A_10
  rw [View.read_writes_eq_canon _ _ _ (cover0_A_10 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9)]
  unfold kernelRun0_A
  dsimp only
  sl_unfold_words
  refine (View.canon_unit_zero (S := S1792x28672) hz _ _).trans ?_
  rw [load_one arg0 harg0 x0, load_one arg1 harg1 x1, load_big arg2 harg2 x2, load_big arg3 harg3 x3, load_big arg4 harg4 x4, load_small arg5 harg5 x5, load_small arg6 harg6 x6, load_big arg7 harg7 x7, load_small arg8 harg8 x8, load_small arg9 harg9 x9]
  rfl

theorem out10 (r : Fin 1792) (a : Fin 28672) :
    out0_A_10 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (ix2 r a) = (frow x0 x1 x2 x3 x4 x5 x6 x7 x8 x9 r).u a := by
  rw [pay10]
  rw [update, mom1_eq x0 x1 x2 x3 x4 x5 x6 x7 x8 x9, mom2_eq x0 x1 x2 x3 x4 x5 x6 x7 x8 x9]
  rfl

theorem pay11 : out0_A_11 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = k0_pay17 (k0_pay10 (mom1 x3 x4 x5 x6)) (k0_pay11 (mom1 x3 x4 x5 x6)) (k0_pay14 (mom1 x3 x4 x5 x6)) (k0_pay15 (mom1 x3 x4 x5 x6)) (k0_pay16 (mom1 x3 x4 x5 x6)) (Scalar.ofBits .f32 0x3F800000#32) := by
  unfold out0_A_11
  rw [View.read_writes_eq_canon _ _ _ (cover0_A_11 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9)]
  unfold kernelRun0_A
  dsimp only
  sl_unfold_words
  refine (View.canon_unit_zero (S := S1792x28672) hz _ _).trans ?_
  rw [load_big arg3 harg3 x3, load_big arg4 harg4 x4, load_small arg5 harg5 x5, load_small arg6 harg6 x6]
  rfl

theorem out11 (r : Fin 1792) (a : Fin 28672) :
    out0_A_11 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (ix2 r a) = (frow x0 x1 x2 x3 x4 x5 x6 x7 x8 x9 r).codeM a := by
  rw [pay11]
  rw [code_m, gr1_eq x0 x1 x2 x3 x4 x5 x6 x7 x8 x9]
  rfl

theorem pay12 : out0_A_12 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = k0_pay14 (mom1 x3 x4 x5 x6) := by
  unfold out0_A_12
  rw [View.read_writes_eq_canon _ _ _ (cover0_A_12 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9)]
  unfold kernelRun0_A
  dsimp only
  sl_unfold_words
  refine (View.canon_unit_zero (S := S1792x224) hz _ _).trans ?_
  rw [load_big arg3 harg3 x3, load_big arg4 harg4 x4, load_small arg5 harg5 x5, load_small arg6 harg6 x6]
  rfl

theorem out12 (r : Fin 1792) (j : Fin 224) :
    out0_A_12 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (ix2 r j) = (frow x0 x1 x2 x3 x4 x5 x6 x7 x8 x9 r).scaleM j := by
  rw [pay12]
  rw [scale_m, gr1_eq x0 x1 x2 x3 x4 x5 x6 x7 x8 x9]
  rfl

theorem pay13 : out0_A_13 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = k0_pay15 (mom1 x3 x4 x5 x6) := by
  unfold out0_A_13
  rw [View.read_writes_eq_canon _ _ _ (cover0_A_13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9)]
  unfold kernelRun0_A
  dsimp only
  sl_unfold_words
  refine (View.canon_unit_zero (S := S1792x224) hz _ _).trans ?_
  rw [load_big arg3 harg3 x3, load_big arg4 harg4 x4, load_small arg5 harg5 x5, load_small arg6 harg6 x6]
  rfl

theorem out13 (r : Fin 1792) (j : Fin 224) :
    out0_A_13 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (ix2 r j) = (frow x0 x1 x2 x3 x4 x5 x6 x7 x8 x9 r).expoM j := by
  rw [pay13]
  rw [expo_m, gr1_eq x0 x1 x2 x3 x4 x5 x6 x7 x8 x9]
  rfl

theorem pay14 : out0_A_14 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = k0_pay1 (k0_pay25 (k0_pay18 (mom2 x3 x7 x8 x9)) (k0_pay19 (mom2 x3 x7 x8 x9)) (k0_pay20 (mom2 x3 x7 x8 x9)) (k0_pay21 (mom2 x3 x7 x8 x9)) (Scalar.ofBits .f32 0x00000000#32)) := by
  unfold out0_A_14
  rw [View.read_writes_eq_canon _ _ _ (cover0_A_14 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9)]
  unfold kernelRun0_A
  dsimp only
  sl_unfold_words
  refine (View.canon_unit_zero (S := S1792x28672) hz _ _).trans ?_
  rw [load_big arg3 harg3 x3, load_big arg7 harg7 x7, load_small arg8 harg8 x8, load_small arg9 harg9 x9]
  rfl

theorem out14 (r : Fin 1792) (a : Fin 28672) :
    out0_A_14 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (ix2 r a) = (frow x0 x1 x2 x3 x4 x5 x6 x7 x8 x9 r).codeV a := by
  rw [pay14]
  rw [code_v, gr2_eq x0 x1 x2 x3 x4 x5 x6 x7 x8 x9]
  rfl

theorem pay15 : out0_A_15 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = k0_pay23 (k0_pay20 (mom2 x3 x7 x8 x9)) (Scalar.ofBits .f32 0x00000000#32) := by
  unfold out0_A_15
  rw [View.read_writes_eq_canon _ _ _ (cover0_A_15 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9)]
  unfold kernelRun0_A
  dsimp only
  sl_unfold_words
  refine (View.canon_unit_zero (S := S1792x224) hz _ _).trans ?_
  rw [load_big arg3 harg3 x3, load_big arg7 harg7 x7, load_small arg8 harg8 x8, load_small arg9 harg9 x9]
  rfl

theorem out15 (r : Fin 1792) (j : Fin 224) :
    out0_A_15 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (ix2 r j) = (frow x0 x1 x2 x3 x4 x5 x6 x7 x8 x9 r).scaleV j := by
  rw [pay15]
  rw [scale_v, gr2_eq x0 x1 x2 x3 x4 x5 x6 x7 x8 x9]
  rfl

theorem pay16 : out0_A_16 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = k0_pay24 (k0_pay20 (mom2 x3 x7 x8 x9)) (k0_pay21 (mom2 x3 x7 x8 x9)) (Scalar.ofBits .f32 0x00000000#32) := by
  unfold out0_A_16
  rw [View.read_writes_eq_canon _ _ _ (cover0_A_16 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9)]
  unfold kernelRun0_A
  dsimp only
  sl_unfold_words
  refine (View.canon_unit_zero (S := S1792x224) hz _ _).trans ?_
  rw [load_big arg3 harg3 x3, load_big arg7 harg7 x7, load_small arg8 harg8 x8, load_small arg9 harg9 x9]
  rfl

theorem out16 (r : Fin 1792) (j : Fin 224) :
    out0_A_16 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (ix2 r j) = (frow x0 x1 x2 x3 x4 x5 x6 x7 x8 x9 r).expoV j := by
  rw [pay16]
  rw [expo_v, gr2_eq x0 x1 x2 x3 x4 x5 x6 x7 x8 x9]
  rfl

end Values

end Cert.ReferenceIdeal.Block

end
-- ==== Proof.ReferenceArrays.lean ====
/- What the reference's one launch leaves in the seven arrays: the results of the problem's rows. -/
module

public import proofs.«01_k».proof.Proof.ReferenceBlock
public import Idealize.ShloMosaic.Lib.Claim
public import Idealize.ShloMosaic.Lib.Tactic
public import Idealize.ShloMosaic.Lib.Pipeline.ValueKit

@[expose] public section

set_option maxRecDepth 16384

noncomputable section

namespace Cert.ReferenceIdeal.Arrays

open Idealize.ShloMosaic Idealize.ShloMosaic.TcCoe Idealize.ShloMosaic.Tactic
open Cert.ReferenceIdeal Cert.ReferenceIdeal.Gen Cert.ReferenceIdeal.Block Cert.Adam

variable (m : (ℓ : Loc nD τ sig) → Buf (Elt Ideal) ℓ) (c : Dev nD)

/-- The rows of the problem in a memory's arguments. -/
def prob : Fin 1792 → Row :=
  rows (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) (m (c, Proc.tc.devRef main_arg7)) (m (c, Proc.tc.devRef main_arg8))

/-- An index of two axes is its coordinates'. -/
theorem eta2 {n k : ℕ} (y : (⟨2, ![n, k]⟩ : Shape).Idx) : y = ix2 (y 0) (y 1) := by
  funext d; match d with | 0 => rfl | 1 => rfl

theorem idx0 : ∀ t, win0_0.index t = ![0, 0] := by decide +kernel
theorem idx1 : ∀ t, win0_1.index t = ![0, 0] := by decide +kernel
theorem idx2 : ∀ t, win0_2.index t = ![0, 0] := by decide +kernel
theorem idx3 : ∀ t, win0_3.index t = ![0, 0] := by decide +kernel
theorem idx4 : ∀ t, win0_4.index t = ![0, 0] := by decide +kernel
theorem idx5 : ∀ t, win0_5.index t = ![0, 0] := by decide +kernel
theorem idx6 : ∀ t, win0_6.index t = ![0, 0] := by decide +kernel
theorem idx7 : ∀ t, win0_7.index t = ![0, 0] := by decide +kernel
theorem idx8 : ∀ t, win0_8.index t = ![0, 0] := by decide +kernel
theorem idx9 : ∀ t, win0_9.index t = ![0, 0] := by decide +kernel
theorem idx10 : ∀ t, win0_10.index t = ![0, 0] := by decide +kernel
theorem idx11 : ∀ t, win0_11.index t = ![0, 0] := by decide +kernel
theorem idx12 : ∀ t, win0_12.index t = ![0, 0] := by decide +kernel
theorem idx13 : ∀ t, win0_13.index t = ![0, 0] := by decide +kernel
theorem idx14 : ∀ t, win0_14.index t = ![0, 0] := by decide +kernel
theorem idx15 : ∀ t, win0_15.index t = ![0, 0] := by decide +kernel
theorem idx16 : ∀ t, win0_16.index t = ![0, 0] := by decide +kernel

/-! Each input block is its whole array. -/

theorem in2 (t : Fin cfg0.N) (r : Fin 1792) (a : Fin 28672) :
    iblk m c 2 t (ix2 r a) = shapeCast Big (m (c, Proc.tc.devRef main_arg0)) castsBig (ix2 r a) := by
  unfold iblk
  entry_read
  blk_ext [idx2 t]

theorem in3 (t : Fin cfg0.N) (r : Fin 1792) (a : Fin 28672) :
    iblk m c 3 t (ix2 r a) = shapeCast Big (m (c, Proc.tc.devRef main_arg1)) castsBig (ix2 r a) := by
  unfold iblk
  entry_read
  blk_ext [idx3 t]

theorem in4 (t : Fin cfg0.N) (r : Fin 1792) (a : Fin 28672) :
    iblk m c 4 t (ix2 r a) = shapeCast Big (m (c, Proc.tc.devRef main_arg2)) castsBig (ix2 r a) := by
  unfold iblk
  entry_read
  blk_ext [idx4 t]

theorem in5 (t : Fin cfg0.N) (r : Fin 1792) (a : Fin 224) :
    iblk m c 5 t (ix2 r a) = shapeCast Small (m (c, Proc.tc.devRef main_arg3)) castsSmall (ix2 r a) := by
  unfold iblk
  entry_read
  blk_ext [idx5 t]

theorem in6 (t : Fin cfg0.N) (r : Fin 1792) (a : Fin 224) :
    iblk m c 6 t (ix2 r a) = shapeCast Small (m (c, Proc.tc.devRef main_arg4)) castsSmall (ix2 r a) := by
  unfold iblk
  entry_read
  blk_ext [idx6 t]

theorem in7 (t : Fin cfg0.N) (r : Fin 1792) (a : Fin 28672) :
    iblk m c 7 t (ix2 r a) = shapeCast Big (m (c, Proc.tc.devRef main_arg5)) castsBig (ix2 r a) := by
  unfold iblk
  entry_read
  blk_ext [idx7 t]

theorem in8 (t : Fin cfg0.N) (r : Fin 1792) (a : Fin 224) :
    iblk m c 8 t (ix2 r a) = shapeCast Small (m (c, Proc.tc.devRef main_arg6)) castsSmall (ix2 r a) := by
  unfold iblk
  entry_read
  blk_ext [idx8 t]

theorem in9 (t : Fin cfg0.N) (r : Fin 1792) (a : Fin 224) :
    iblk m c 9 t (ix2 r a) = shapeCast Small (m (c, Proc.tc.devRef main_arg7)) castsSmall (ix2 r a) := by
  unfold iblk
  entry_read
  blk_ext [idx9 t]

theorem in0 (t : Fin cfg0.N) : iblk m c 0 t (ix2 0 0) = bias 0x3F666666#32 (m (c, Proc.tc.devRef main_arg8)) := by
  unfold iblk
  entry_read
  have e : (win0_0.blk t).view.emb (ix2 0 0) = ix2 0 0 := by blk_point [idx0 t]
  blk_simp [idx0 t]
  rw [e]
  unfold bias
  pointwise
  rfl

theorem in1 (t : Fin cfg0.N) : iblk m c 1 t (ix2 0 0) = bias 0x3F733333#32 (m (c, Proc.tc.devRef main_arg8)) := by
  unfold iblk
  entry_read
  have e : (win0_1.blk t).view.emb (ix2 0 0) = ix2 0 0 := by blk_point [idx1 t]
  blk_simp [idx1 t]
  rw [e]
  unfold bias
  pointwise
  rfl

/-- Row `r` of the inputs is a row of the problem. -/
theorem frow_eq (t : Fin cfg0.N) (r : Fin 1792) :
    frow (iblk m c 0 t) (iblk m c 1 t) (iblk m c 2 t) (iblk m c 3 t) (iblk m c 4 t) (iblk m c 5 t) (iblk m c 6 t) (iblk m c 7 t)
      (iblk m c 8 t) (iblk m c 9 t) r = prob m c r := by
  have a0 := in0 m c t; have a1 := in1 m c t
  have a2 := funext (in2 m c t r); have a3 := funext (in3 m c t r)
  have a4 := funext (in4 m c t r); have a5 := funext (in5 m c t r); have a6 := funext (in6 m c t r)
  have a7 := funext (in7 m c t r); have a8 := funext (in8 m c t r); have a9 := funext (in9 m c t r)
  unfold prob rows
  generalize iblk m c 0 t = x0 at *; generalize iblk m c 1 t = x1 at *; generalize iblk m c 2 t = x2 at *
  generalize iblk m c 3 t = x3 at *; generalize iblk m c 4 t = x4 at *; generalize iblk m c 5 t = x5 at *
  generalize iblk m c 6 t = x6 at *; generalize iblk m c 7 t = x7 at *; generalize iblk m c 8 t = x8 at *
  generalize iblk m c 9 t = x9 at *
  exact row_ext a2 a3 a4 a5 a6 a7 a8 a9 a0 a1

/-- The one point of the grid. -/
abbrev t0 : Fin cfg0.N := ⟨0, Nat.one_pos⟩

/-! What the body leaves in each output is the problem's result. -/

theorem val10 (y : S1792x28672.Idx) : (outsAt0 m c t0).1 y = updates (prob m c) y := by
  obtain ⟨r, a, rfl⟩ : ∃ r a, y = ix2 r a := ⟨y 0, y 1, eta2 y⟩
  unfold outsAt0
  dsimp only
  rw [Block.out10, frow_eq]
  rfl

theorem val11 (y : S1792x28672.Idx) : (outsAt0 m c t0).2.1 y = codesM (prob m c) y := by
  obtain ⟨r, a, rfl⟩ : ∃ r a, y = ix2 r a := ⟨y 0, y 1, eta2 y⟩
  unfold outsAt0
  dsimp only
  rw [Block.out11, frow_eq]
  rfl

theorem val12 (y : S1792x224.Idx) : (outsAt0 m c t0).2.2.1 y = scalesM (prob m c) y := by
  obtain ⟨r, a, rfl⟩ : ∃ r a, y = ix2 r a := ⟨y 0, y 1, eta2 y⟩
  unfold outsAt0
  dsimp only
  rw [Block.out12, frow_eq]
  rfl

theorem val13 (y : S1792x224.Idx) : (outsAt0 m c t0).2.2.2.1 y = exposM (prob m c) y := by
  obtain ⟨r, a, rfl⟩ : ∃ r a, y = ix2 r a := ⟨y 0, y 1, eta2 y⟩
  unfold outsAt0
  dsimp only
  rw [Block.out13, frow_eq]
  rfl

theorem val14 (y : S1792x28672.Idx) : (outsAt0 m c t0).2.2.2.2.1 y = codesV (prob m c) y := by
  obtain ⟨r, a, rfl⟩ : ∃ r a, y = ix2 r a := ⟨y 0, y 1, eta2 y⟩
  unfold outsAt0
  dsimp only
  rw [Block.out14, frow_eq]
  rfl

theorem val15 (y : S1792x224.Idx) : (outsAt0 m c t0).2.2.2.2.2.1 y = scalesV (prob m c) y := by
  obtain ⟨r, a, rfl⟩ : ∃ r a, y = ix2 r a := ⟨y 0, y 1, eta2 y⟩
  unfold outsAt0
  dsimp only
  rw [Block.out15, frow_eq]
  rfl

theorem val16 (y : S1792x224.Idx) : (outsAt0 m c t0).2.2.2.2.2.2 y = exposV (prob m c) y := by
  obtain ⟨r, a, rfl⟩ : ∃ r a, y = ix2 r a := ⟨y 0, y 1, eta2 y⟩
  unfold outsAt0
  dsimp only
  rw [Block.out16, frow_eq]
  rfl

/-! Each array ends holding it. -/

theorem arr10 : (dats m 0 c).arrAt 10 cfg0.N = updates (prob m c) := by
  refine (dats m 0 c).arrAt_eq_of_after_last 10 t0 (by decide +kernel) _ fun j => ?_
  rw [after0_10]
  exact val10 m c j

theorem arr11 : (dats m 0 c).arrAt 11 cfg0.N = codesM (prob m c) := by
  refine (dats m 0 c).arrAt_eq_of_after_last 11 t0 (by decide +kernel) _ fun j => ?_
  rw [after0_11]
  exact val11 m c j

theorem arr12 : (dats m 0 c).arrAt 12 cfg0.N = scalesM (prob m c) := by
  refine (dats m 0 c).arrAt_eq_of_after_last 12 t0 (by decide +kernel) _ fun j => ?_
  rw [after0_12]
  exact val12 m c j

theorem arr13 : (dats m 0 c).arrAt 13 cfg0.N = exposM (prob m c) := by
  refine (dats m 0 c).arrAt_eq_of_after_last 13 t0 (by decide +kernel) _ fun j => ?_
  rw [after0_13]
  exact val13 m c j

theorem arr14 : (dats m 0 c).arrAt 14 cfg0.N = codesV (prob m c) := by
  refine (dats m 0 c).arrAt_eq_of_after_last 14 t0 (by decide +kernel) _ fun j => ?_
  rw [after0_14]
  exact val14 m c j

theorem arr15 : (dats m 0 c).arrAt 15 cfg0.N = scalesV (prob m c) := by
  refine (dats m 0 c).arrAt_eq_of_after_last 15 t0 (by decide +kernel) _ fun j => ?_
  rw [after0_15]
  exact val15 m c j

theorem arr16 : (dats m 0 c).arrAt 16 cfg0.N = exposV (prob m c) := by
  refine (dats m 0 c).arrAt_eq_of_after_last 16 t0 (by decide +kernel) _ fun j => ?_
  rw [after0_16]
  exact val16 m c j

end Cert.ReferenceIdeal.Arrays

end
-- ==== Proof.Equation.lean ====
/- The equation: from memories agreeing on the arguments, the ideal kernel and the ideal reference end with the same
   seven results — the Adam step of the same rows — and leave the arguments as they were. -/
module

public import proofs.«01_k».proof.Defs
public import proofs.«01_k».proof.Proof.KernelArrays
public import proofs.«01_k».proof.Proof.ReferenceArrays
public import proofs.«01_k».proof.Proof.Gen.KernelIdeal.Value
public import proofs.«01_k».proof.Proof.Gen.ReferenceIdeal.Value

@[expose] public section

noncomputable section

namespace Cert.Equation

open Idealize.ShloMosaic Idealize.SL.Sem

/-- Memories that agree on the arguments pose the same problem. -/
theorem prob_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Arrays.prob m' c = Cert.KernelIdeal.Arrays.prob m c :=
  (congrArg (fun a => Cert.Adam.rows a _ _ _ _ _ _ _ _) h0).trans <|
  (congrArg (fun a => Cert.Adam.rows _ a _ _ _ _ _ _ _) h1).trans <|
  (congrArg (fun a => Cert.Adam.rows _ _ a _ _ _ _ _ _) h2).trans <|
  (congrArg (fun a => Cert.Adam.rows _ _ _ a _ _ _ _ _) h3).trans <|
  (congrArg (fun a => Cert.Adam.rows _ _ _ _ a _ _ _ _) h4).trans <|
  (congrArg (fun a => Cert.Adam.rows _ _ _ _ _ a _ _ _) h5).trans <|
  (congrArg (fun a => Cert.Adam.rows _ _ _ _ _ _ a _ _) h6).trans <|
  (congrArg (fun a => Cert.Adam.rows _ _ _ _ _ _ _ a _) h7).trans <|
  (congrArg (fun a => Cert.Adam.rows _ _ _ _ _ _ _ _ a) h8)

/-- The ideal kernel and the ideal reference end with equal results. -/
theorem algebraic : algebraic_KernelIdeal_ReferenceIdeal := by
  intro m g m' g' _ agree
  have same : ∀ c, Cert.ReferenceIdeal.Arrays.prob m' c = Cert.KernelIdeal.Arrays.prob m c := fun c =>
    let ⟨h0, h1, h2, h3, h4, h5, h6, h7, h8⟩ := agree c
    prob_eq m m' c h0 h1 h2 h3 h4 h5 h6 h7 h8
  refine ⟨fun c => Cert.Adam.updates (Cert.KernelIdeal.Arrays.prob m c),
    fun c => Cert.Adam.codesM (Cert.KernelIdeal.Arrays.prob m c),
    fun c => Cert.Adam.scalesM (Cert.KernelIdeal.Arrays.prob m c),
    fun c => Cert.Adam.exposM (Cert.KernelIdeal.Arrays.prob m c),
    fun c => Cert.Adam.codesV (Cert.KernelIdeal.Arrays.prob m c),
    fun c => Cert.Adam.scalesV (Cert.KernelIdeal.Arrays.prob m c),
    fun c => Cert.Adam.exposV (Cert.KernelIdeal.Arrays.prob m c), ?_, ?_⟩
  · refine (θ_run _ _ _).mono (fun r h c => ?_) (Cert.KernelIdeal.Value.run_blocks m g)
    obtain ⟨e0, e1, e2, e3, e4, e5, e6, rest⟩ := h c
    exact ⟨e0.trans (Cert.KernelIdeal.Arrays.arr9 m c), e1.trans (Cert.KernelIdeal.Arrays.arr10 m c),
      e2.trans (Cert.KernelIdeal.Arrays.arr11 m c), e3.trans (Cert.KernelIdeal.Arrays.arr12 m c),
      e4.trans (Cert.KernelIdeal.Arrays.arr13 m c), e5.trans (Cert.KernelIdeal.Arrays.arr14 m c),
      e6.trans (Cert.KernelIdeal.Arrays.arr15 m c), rest⟩
  · refine (θ_run _ _ _).mono (fun r h c => ?_) (Cert.ReferenceIdeal.Value.run_blocks m' g')
    obtain ⟨e0, e1, e2, e3, e4, e5, e6, rest⟩ := h c
    have s := same c
    exact ⟨e0.trans ((Cert.ReferenceIdeal.Arrays.arr10 m' c).trans (congrArg Cert.Adam.updates s)),
      e1.trans ((Cert.ReferenceIdeal.Arrays.arr11 m' c).trans (congrArg Cert.Adam.codesM s)),
      e2.trans ((Cert.ReferenceIdeal.Arrays.arr12 m' c).trans (congrArg Cert.Adam.scalesM s)),
      e3.trans ((Cert.ReferenceIdeal.Arrays.arr13 m' c).trans (congrArg Cert.Adam.exposM s)),
      e4.trans ((Cert.ReferenceIdeal.Arrays.arr14 m' c).trans (congrArg Cert.Adam.codesV s)),
      e5.trans ((Cert.ReferenceIdeal.Arrays.arr15 m' c).trans (congrArg Cert.Adam.scalesV s)),
      e6.trans ((Cert.ReferenceIdeal.Arrays.arr16 m' c).trans (congrArg Cert.Adam.exposV s)), rest⟩

end Cert.Equation

end
-- ==== Proof.lean ====
module

public import proofs.«01_k».proof.Proof.Gen.KernelIdeal.Value
public import proofs.«01_k».proof.Proof.Gen.ReferenceIdeal.Value
public import proofs.«01_k».proof.Defs
public import proofs.«01_k».proof.Proof.Runs
public import proofs.«01_k».proof.Proof.Equation
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- Everything the certificate states. -/
theorem claim : Cert.Claim :=
  ⟨Cert.Kernel.Gen.facts, Cert.KernelIdeal.Gen.facts, Cert.Reference.Gen.facts, Cert.ReferenceIdeal.Gen.facts,
    Runs.frame_kernel, Runs.frame_kernel_ideal, Runs.frame_reference, Runs.frame_reference_ideal,
    Runs.preserves_kernel, Runs.preserves_reference, Equation.algebraic⟩

end Cert.Proof

end
